-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .bf16 := Host.absf main_arg2
  let main_cst_2 : FVec F S_ .bf16 := constant S_ .bf16 0x7F80#16
  let main_v10 : FVec F S2x256x4x64 .bf16 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .bf16 := Host.absf main_arg2
  let main_cst_2 : FVec F S_ .bf16 := constant S_ .bf16 0x7F80#16
  let main_v10 : FVec F S2x2048x4x64 .bf16 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S512x512 : Shape := ⟨2, ![512, 512]⟩
abbrev S512x4x64 : Shape := ⟨3, ![512, 4, 64]⟩
abbrev S8x2x64x256 : Shape := ⟨4, ![8, 2, 64, 256]⟩
abbrev S4x8x64x64 : Shape := ⟨4, ![4, 8, 64, 64]⟩
abbrev S14 : Shape := ⟨1, ![14]⟩
abbrev S8x2 : Shape := ⟨2, ![8, 2]⟩
abbrev S7 : Shape := ⟨1, ![7]⟩
abbrev S8 : Shape := ⟨1, ![8]⟩
abbrev S_ : Shape := ⟨0, ![]⟩
abbrev S64x1x64 : Shape := ⟨3, ![64, 1, 64]⟩
abbrev S64x64 : Shape := ⟨2, ![64, 64]⟩
abbrev S64x256 : Shape := ⟨2, ![64, 256]⟩
abbrev S1x1x64x256 : Shape := ⟨4, ![1, 1, 64, 256]⟩
abbrev S1 : Shape := ⟨1, ![1]⟩
abbrev S1x1 : Shape := ⟨2, ![1, 1]⟩
abbrev S64x512 : Shape := ⟨2, ![64, 512]⟩
abbrev S1x1x64x64 : Shape := ⟨4, ![1, 1, 64, 64]⟩
abbrev S1x8x64x64 : Shape := ⟨4, ![1, 8, 64, 64]⟩
abbrev S8x64x64 : Shape := ⟨3, ![8, 64, 64]⟩
abbrev S64 : Shape := ⟨1, ![64]⟩
abbrev S1x64x1 : Shape := ⟨3, ![1, 64, 1]⟩
abbrev S1x64x64 : Shape := ⟨3, ![1, 64, 64]⟩

abbrev nBuf : Space → Nat
  | .hbm => 9
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S512x512, .bf16⟩
  | .hbm, ⟨6, _⟩ => ⟨S512x4x64, .bf16⟩
  | .hbm, ⟨7, _⟩ => ⟨S512x4x64, .bf16⟩
  | .hbm, ⟨8, _⟩ => ⟨S2x256x512, .bf16⟩
  | .local _ .vmem, ⟨0, _⟩ => ⟨S512x512, .bf16⟩
  | .local _ .vmem, ⟨1, _⟩ => ⟨S512x256, .bf16⟩
  | .local _ .vmem, ⟨2, _⟩ => ⟨S512x4x64, .bf16⟩
  | .local _ .vmem, ⟨3, _⟩ => ⟨S512x4x64, .bf16⟩
  | .local _ .vmem, ⟨4, _⟩ => ⟨S256x512, .bf16⟩
  | .local _ .vmem, ⟨5, _⟩ => ⟨S2x256x512, .bf16⟩
  | .local _ .vmem, ⟨6, _⟩ => ⟨S512x256, .bf16⟩
  | .local _ .vmem, ⟨7, _⟩ => ⟨S512x256, .bf16⟩
  | .local _ .vmem, ⟨8, _⟩ => ⟨S8x2x64x256, .bf16⟩
  | .local _ .vmem, ⟨9, _⟩ => ⟨S4x8x64x64, .f32⟩
  | .local _ .vmem, ⟨10, _⟩ => ⟨S512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.addi v2 c1_i32_0
  let c8_i32_1 : BitVec 32 := 8#32
  let v6 : BitVec 32 := Scalar.remsi v5 c8_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.addi v2 c2_i32
  let c8_i32_4 : BitVec 32 := 8#32
  let v10 : BitVec 32 := Scalar.remsi v9 c8_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.addi v2 c3_i32
  let c8_i32_8 : BitVec 32 := 8#32
  let v14 : BitVec 32 := Scalar.remsi v13 c8_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.addi v2 c4_i32
  let c8_i32_12 : BitVec 32 := 8#32
  let v18 : BitVec 32 := Scalar.remsi v17 c8_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.addi v2 c5_i32
  let c8_i32_16 : BitVec 32 := 8#32
  let v22 : BitVec 32 := Scalar.remsi v21 c8_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v25 : BitVec 32 := Scalar.addi v2 c6_i32
  let c8_i32_20 : BitVec 32 := 8#32
  let v26 : BitVec 32 := Scalar.remsi v25 c8_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v29 : BitVec 32 := Scalar.addi v2 c7_i32
  let c8_i32_24 : BitVec 32 := 8#32
  let v30 : BitVec 32 := Scalar.remsi v29 c8_i32_24
  let c1_i32_26 : BitVec 32 := 1#32
  let v31 : BitVec 32 := Scalar.muli v30 c1_i32_26
  let v32 : BitVec 32 := Scalar.addi c0_i32_27 v31
  v32.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v34 : Index := Scalar.indexCast v33
  let c0 : Index := 0#32
  let c0_29 : Index := 0#32
  ![v34.toNat, 0, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v37 : Index := Scalar.indexCast v33
  let c0_30 : Index := 0#32
  ![v37.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v41 : Index := Scalar.indexCast v33
  let c1 : Index := 1#32
  let c0_31 : Index := 0#32
  ![v41.toNat, 1, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v44 : Index := Scalar.indexCast v33
  let c64 : Index := 64#32
  ![v44.toNat, 64]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v48 : Index := Scalar.indexCast v33
  let c2 : Index := 2#32
  let c0_32 : Index := 0#32
  ![v48.toNat, 2, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v51 : Index := Scalar.indexCast v33
  let c128 : Index := 128#32
  ![v51.toNat, 128]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v55 : Index := Scalar.indexCast v33
  let c3 : Index := 3#32
  let c0_33 : Index := 0#32
  ![v55.toNat, 3, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_28 : BitVec 32 := 64#32
  let v33 : BitVec 32 := Scalar.muli v2 c64_i32_28
  let v58 : Index := Scalar.indexCast v33
  let c192 : Index := 192#32
  ![v58.toNat, 192]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let v91 : Index := Scalar.indexCast v3
  let c0_47 : Index := 0#32
  ![v91.toNat, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : Index := Scalar.indexCast v2
  let c0_48 : Index := 0#32
  let c0_49 : Index := 0#32
  let c0_50 : Index := 0#32
  ![v93.toNat, 0, 0, 0]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : Index := Scalar.indexCast v2
  let c1_52 : Index := 1#32
  let c0_53 : Index := 0#32
  let c0_54 : Index := 0#32
  ![v99.toNat, 1, 0, 0]
def k0_off12 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v106 : Index := Scalar.indexCast v105
  let c0_59 : Index := 0#32
  let c0_60 : Index := 0#32
  ![v106.toNat, 0, 0]
def k0_off13 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v109 : Index := Scalar.indexCast v105
  let c0_61 : Index := 0#32
  ![v109.toNat, 0]
def k0_off14 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v113 : Index := Scalar.indexCast v105
  let c1_62 : Index := 1#32
  let c0_63 : Index := 0#32
  ![v113.toNat, 1, 0]
def k0_off15 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v116 : Index := Scalar.indexCast v105
  let c64_64 : Index := 64#32
  ![v116.toNat, 64]
def k0_off16 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v120 : Index := Scalar.indexCast v105
  let c2_65 : Index := 2#32
  let c0_66 : Index := 0#32
  ![v120.toNat, 2, 0]
def k0_off17 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v123 : Index := Scalar.indexCast v105
  let c128_67 : Index := 128#32
  ![v123.toNat, 128]
def k0_off18 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v127 : Index := Scalar.indexCast v105
  let c3_68 : Index := 3#32
  let c0_69 : Index := 0#32
  ![v127.toNat, 3, 0]
def k0_off19 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_58 : BitVec 32 := 64#32
  let v105 : BitVec 32 := Scalar.muli v104 c64_i32_58
  let v130 : Index := Scalar.indexCast v105
  let c192_70 : Index := 192#32
  ![v130.toNat, 192]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  ![v2.toNat, 0]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_77 : BitVec 32 := 0#32
  let c0_i32_78 : BitVec 32 := 0#32
  ![v2.toNat, 0, 0, 0]
def k0_off22 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_56
  let c8_i32_57 : BitVec 32 := 8#32
  let v104 : BitVec 32 := Scalar.remsi v103 c8_i32_57
  let c64_i32_71 : BitVec 32 := 64#32
  let v134 : BitVec 32 := Scalar.muli v104 c64_i32_71
  let c0_i32_79 : BitVec 32 := 0#32
  ![v134.toNat, 0]
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v103 : BitVec 32 := Scalar.addi v2 c1_i32_56
  let c8_i32_57 : BitVec 32 := 8#32
  let v104 : BitVec 32 := Scalar.remsi v103 c8_i32_57
  let c1_i32_75 : BitVec 32 := 1#32
  let v135 : BitVec 32 := Scalar.muli v104 c1_i32_75
  let v136 : BitVec 32 := Scalar.addi c0_i32_76 v135
  v136.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v144 : BitVec 32 := Scalar.addi v2 c2_i32_80
  let c8_i32_81 : BitVec 32 := 8#32
  let v145 : BitVec 32 := Scalar.remsi v144 c8_i32_81
  let c1_i32_99 : BitVec 32 := 1#32
  let v176 : BitVec 32 := Scalar.muli v145 c1_i32_99
  let v177 : BitVec 32 := Scalar.addi c0_i32_100 v176
  v177.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v185 : BitVec 32 := Scalar.addi v2 c3_i32_104
  let c8_i32_105 : BitVec 32 := 8#32
  let v186 : BitVec 32 := Scalar.remsi v185 c8_i32_105
  let c1_i32_123 : BitVec 32 := 1#32
  let v217 : BitVec 32 := Scalar.muli v186 c1_i32_123
  let v218 : BitVec 32 := Scalar.addi c0_i32_124 v217
  v218.toNat
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v226 : BitVec 32 := Scalar.addi v2 c4_i32_128
  let c8_i32_129 : BitVec 32 := 8#32
  let v227 : BitVec 32 := Scalar.remsi v226 c8_i32_129
  let c1_i32_147 : BitVec 32 := 1#32
  let v258 : BitVec 32 := Scalar.muli v227 c1_i32_147
  let v259 : BitVec 32 := Scalar.addi c0_i32_148 v258
  v259.toNat
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_152 : BitVec 32 := 5#32
  let v267 : BitVec 32 := Scalar.addi v2 c5_i32_152
  let c8_i32_153 : BitVec 32 := 8#32
  let v268 : BitVec 32 := Scalar.remsi v267 c8_i32_153
  let c1_i32_171 : BitVec 32 := 1#32
  let v299 : BitVec 32 := Scalar.muli v268 c1_i32_171
  let v300 : BitVec 32 := Scalar.addi c0_i32_172 v299
  v300.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_176 : BitVec 32 := 6#32
  let v308 : BitVec 32 := Scalar.addi v2 c6_i32_176
  let c8_i32_177 : BitVec 32 := 8#32
  let v309 : BitVec 32 := Scalar.remsi v308 c8_i32_177
  let c1_i32_195 : BitVec 32 := 1#32
  let v340 : BitVec 32 := Scalar.muli v309 c1_i32_195
  let v341 : BitVec 32 := Scalar.addi c0_i32_196 v340
  v341.toNat
def k0_dev14 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_200 : BitVec 32 := 7#32
  let v349 : BitVec 32 := Scalar.addi v2 c7_i32_200
  let c8_i32_201 : BitVec 32 := 8#32
  let v350 : BitVec 32 := Scalar.remsi v349 c8_i32_201
  let c1_i32_219 : BitVec 32 := 1#32
  let v381 : BitVec 32 := Scalar.muli v350 c1_i32_219
  let v382 : BitVec 32 := Scalar.addi c0_i32_220 v381
  v382.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_241 : BitVec 32 := 1#32
  ![v2.toNat, 1]
def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let c0_i32_245 : BitVec 32 := 0#32
  let c0_i32_246 : BitVec 32 := 0#32
  ![v2.toNat, 1, 0, 0]
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_224 : BitVec 32 := 1#32
  let v390 : BitVec 32 := Scalar.addi v2 c1_i32_224
  let c8_i32_225 : BitVec 32 := 8#32
  let v391 : BitVec 32 := Scalar.remsi v390 c8_i32_225
  let c1_i32_243 : BitVec 32 := 1#32
  let v422 : BitVec 32 := Scalar.muli v391 c1_i32_243
  let v423 : BitVec 32 := Scalar.addi c0_i32_244 v422
  v423.toNat
def k0_dev16 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_248 : BitVec 32 := 2#32
  let v431 : BitVec 32 := Scalar.addi v2 c2_i32_248
  let c8_i32_249 : BitVec 32 := 8#32
  let v432 : BitVec 32 := Scalar.remsi v431 c8_i32_249
  let c1_i32_267 : BitVec 32 := 1#32
  let v463 : BitVec 32 := Scalar.muli v432 c1_i32_267
  let v464 : BitVec 32 := Scalar.addi c0_i32_268 v463
  v464.toNat
def k0_dev17 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_272 : BitVec 32 := 3#32
  let v472 : BitVec 32 := Scalar.addi v2 c3_i32_272
  let c8_i32_273 : BitVec 32 := 8#32
  let v473 : BitVec 32 := Scalar.remsi v472 c8_i32_273
  let c1_i32_290 : BitVec 32 := 1#32
  let v504 : BitVec 32 := Scalar.muli v473 c1_i32_290
  let v505 : BitVec 32 := Scalar.addi c0_i32_291 v504
  v505.toNat
def k0_dev18 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v513 : BitVec 32 := Scalar.addi v2 c4_i32_295
  let c8_i32_296 : BitVec 32 := 8#32
  let v514 : BitVec 32 := Scalar.remsi v513 c8_i32_296
  let c1_i32_313 : BitVec 32 := 1#32
  let v545 : BitVec 32 := Scalar.muli v514 c1_i32_313
  let v546 : BitVec 32 := Scalar.addi c0_i32_314 v545
  v546.toNat
def k0_dev19 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_318 : BitVec 32 := 5#32
  let v554 : BitVec 32 := Scalar.addi v2 c5_i32_318
  let c8_i32_319 : BitVec 32 := 8#32
  let v555 : BitVec 32 := Scalar.remsi v554 c8_i32_319
  let c1_i32_336 : BitVec 32 := 1#32
  let v586 : BitVec 32 := Scalar.muli v555 c1_i32_336
  let v587 : BitVec 32 := Scalar.addi c0_i32_337 v586
  v587.toNat
def k0_dev20 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_341 : BitVec 32 := 6#32
  let v595 : BitVec 32 := Scalar.addi v2 c6_i32_341
  let c8_i32_342 : BitVec 32 := 8#32
  let v596 : BitVec 32 := Scalar.remsi v595 c8_i32_342
  let c1_i32_359 : BitVec 32 := 1#32
  let v627 : BitVec 32 := Scalar.muli v596 c1_i32_359
  let v628 : BitVec 32 := Scalar.addi c0_i32_360 v627
  v628.toNat
def k0_dev21 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_364 : BitVec 32 := 7#32
  let v636 : BitVec 32 := Scalar.addi v2 c7_i32_364
  let c8_i32_365 : BitVec 32 := 8#32
  let v637 : BitVec 32 := Scalar.remsi v636 c8_i32_365
  let c1_i32_382 : BitVec 32 := 1#32
  let v668 : BitVec 32 := Scalar.muli v637 c1_i32_382
  let v669 : BitVec 32 := Scalar.addi c0_i32_383 v668
  v669.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let v677 : Index := Scalar.indexCast v3
  let c0_387 : Index := 0#32
  ![v677.toNat, 0]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v685 : Index := Scalar.indexCast v2
  let c0_390 : Index := 0#32
  let c0_391 : Index := 0#32
  let c0_392 : Index := 0#32
  ![v685.toNat, 0, 0, 0]
def k0_off27 (d0 : Dev nD) : Fin 4 → Nat :=
  let c0_394 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v689 : Index := Scalar.indexCast v2
  let c0_395 : Index := 0#32
  let c0_396 : Index := 0#32
  ![0, v689.toNat, 0, 0]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v694 : Index := Scalar.indexCast v2
  let c0_397 : Index := 0#32
  let c0_398 : Index := 0#32
  let c64_399 : Index := 64#32
  ![v694.toNat, 0, 0, 64]
def k0_off29 (d0 : Dev nD) : Fin 4 → Nat :=
  let c1_401 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v698 : Index := Scalar.indexCast v2
  let c0_402 : Index := 0#32
  let c0_403 : Index := 0#32
  ![1, v698.toNat, 0, 0]
def k0_off30 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v703 : Index := Scalar.indexCast v2
  let c0_404 : Index := 0#32
  let c0_405 : Index := 0#32
  let c128_406 : Index := 128#32
  ![v703.toNat, 0, 0, 128]
def k0_off31 (d0 : Dev nD) : Fin 4 → Nat :=
  let c2_408 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v707 : Index := Scalar.indexCast v2
  let c0_409 : Index := 0#32
  let c0_410 : Index := 0#32
  ![2, v707.toNat, 0, 0]
def k0_off32 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v712 : Index := Scalar.indexCast v2
  let c0_411 : Index := 0#32
  let c0_412 : Index := 0#32
  let c192_413 : Index := 192#32
  ![v712.toNat, 0, 0, 192]
def k0_off33 (d0 : Dev nD) : Fin 4 → Nat :=
  let c3_415 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v716 : Index := Scalar.indexCast v2
  let c0_416 : Index := 0#32
  let c0_417 : Index := 0#32
  ![3, v716.toNat, 0, 0]
def k0_off34 (d0 : Dev nD) (c1_i32_419 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let c0_i32_423 : BitVec 32 := 0#32
  ![v722.toNat, 0]
def k0_off35 (d0 : Dev nD) (c1_i32_419 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let c0_i32_422 : BitVec 32 := 0#32
  let c0_i32_427 : BitVec 32 := 0#32
  let c0_i32_428 : BitVec 32 := 0#32
  ![v722.toNat, 0, 0, 0]
def k0_off36 (d0 : Dev nD) (c1_i32_419 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v732 : Index := Scalar.indexCast v722
  let c0_431 : Index := 0#32
  let c0_432 : Index := 0#32
  let c0_433 : Index := 0#32
  ![v732.toNat, 0, 0, 0]
def k0_off37 (d0 : Dev nD) (c1_i32_419 : BitVec 32) : Fin 4 → Nat :=
  let c0_435 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v736 : Index := Scalar.indexCast v722
  let c0_436 : Index := 0#32
  let c0_437 : Index := 0#32
  ![0, v736.toNat, 0, 0]
def k0_off38 (d0 : Dev nD) (c1_i32_419 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v741 : Index := Scalar.indexCast v722
  let c0_438 : Index := 0#32
  let c0_439 : Index := 0#32
  let c64_440 : Index := 64#32
  ![v741.toNat, 0, 0, 64]
def k0_off39 (d0 : Dev nD) (c1_i32_419 : BitVec 32) : Fin 4 → Nat :=
  let c1_442 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v745 : Index := Scalar.indexCast v722
  let c0_443 : Index := 0#32
  let c0_444 : Index := 0#32
  ![1, v745.toNat, 0, 0]
def k0_off40 (d0 : Dev nD) (c1_i32_419 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v750 : Index := Scalar.indexCast v722
  let c0_445 : Index := 0#32
  let c0_446 : Index := 0#32
  let c128_447 : Index := 128#32
  ![v750.toNat, 0, 0, 128]
def k0_off41 (d0 : Dev nD) (c1_i32_419 : BitVec 32) : Fin 4 → Nat :=
  let c2_449 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v754 : Index := Scalar.indexCast v722
  let c0_450 : Index := 0#32
  let c0_451 : Index := 0#32
  ![2, v754.toNat, 0, 0]
def k0_off42 (d0 : Dev nD) (c1_i32_419 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v759 : Index := Scalar.indexCast v722
  let c0_452 : Index := 0#32
  let c0_453 : Index := 0#32
  let c192_454 : Index := 192#32
  ![v759.toNat, 0, 0, 192]
def k0_off43 (d0 : Dev nD) (c1_i32_419 : BitVec 32) : Fin 4 → Nat :=
  let c3_456 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_418 : BitVec 32 := 8#32
  let v720 : BitVec 32 := Scalar.addi v2 c8_i32_418
  let v721 : BitVec 32 := Scalar.subi v720 c1_i32_419
  let c8_i32_420 : BitVec 32 := 8#32
  let v722 : BitVec 32 := Scalar.remsi v721 c8_i32_420
  let v763 : Index := Scalar.indexCast v722
  let c0_457 : Index := 0#32
  let c0_458 : Index := 0#32
  ![3, v763.toNat, 0, 0]
def k0_off44 (d0 : Dev nD) (c1_i32_706 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_705 : BitVec 32 := 8#32
  let v1049 : BitVec 32 := Scalar.addi v2 c8_i32_705
  let v1050 : BitVec 32 := Scalar.subi v1049 c1_i32_706
  let c8_i32_707 : BitVec 32 := 8#32
  let v1051 : BitVec 32 := Scalar.remsi v1050 c8_i32_707
  let c1_i32_710 : BitVec 32 := 1#32
  ![v1051.toNat, 1]
def k0_off45 (d0 : Dev nD) (c1_i32_706 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_705 : BitVec 32 := 8#32
  let v1049 : BitVec 32 := Scalar.addi v2 c8_i32_705
  let v1050 : BitVec 32 := Scalar.subi v1049 c1_i32_706
  let c8_i32_707 : BitVec 32 := 8#32
  let v1051 : BitVec 32 := Scalar.remsi v1050 c8_i32_707
  let c1_i32_709 : BitVec 32 := 1#32
  let c0_i32_714 : BitVec 32 := 0#32
  let c0_i32_715 : BitVec 32 := 0#32
  ![v1051.toNat, 1, 0, 0]
def k0_off46 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3 : BitVec 32 := Scalar.muli v2 c64_i32
  let c0_i32_993 : BitVec 32 := 0#32
  ![v3.toNat, 0]
def k0_dev22 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_988 : BitVec 32 := 1#32
  let v1398 : BitVec 32 := Scalar.addi v2 c1_i32_988
  let c8_i32_989 : BitVec 32 := 8#32
  let v1399 : BitVec 32 := Scalar.remsi v1398 c8_i32_989
  let c1_i32_991 : BitVec 32 := 1#32
  let v1400 : BitVec 32 := Scalar.muli v1399 c1_i32_991
  let v1401 : BitVec 32 := Scalar.addi c0_i32_992 v1400
  v1401.toNat
def k0_dev23 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_995 : BitVec 32 := 2#32
  let v1408 : BitVec 32 := Scalar.addi v2 c2_i32_995
  let c8_i32_996 : BitVec 32 := 8#32
  let v1409 : BitVec 32 := Scalar.remsi v1408 c8_i32_996
  let c1_i32_998 : BitVec 32 := 1#32
  let v1410 : BitVec 32 := Scalar.muli v1409 c1_i32_998
  let v1411 : BitVec 32 := Scalar.addi c0_i32_999 v1410
  v1411.toNat
def k0_dev24 (d0 : Dev nD) : Nat :=
  let c0_i32_1006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1002 : BitVec 32 := 3#32
  let v1418 : BitVec 32 := Scalar.addi v2 c3_i32_1002
  let c8_i32_1003 : BitVec 32 := 8#32
  let v1419 : BitVec 32 := Scalar.remsi v1418 c8_i32_1003
  let c1_i32_1005 : BitVec 32 := 1#32
  let v1420 : BitVec 32 := Scalar.muli v1419 c1_i32_1005
  let v1421 : BitVec 32 := Scalar.addi c0_i32_1006 v1420
  v1421.toNat
def k0_dev25 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1009 : BitVec 32 := 4#32
  let v1428 : BitVec 32 := Scalar.addi v2 c4_i32_1009
  let c8_i32_1010 : BitVec 32 := 8#32
  let v1429 : BitVec 32 := Scalar.remsi v1428 c8_i32_1010
  let c1_i32_1012 : BitVec 32 := 1#32
  let v1430 : BitVec 32 := Scalar.muli v1429 c1_i32_1012
  let v1431 : BitVec 32 := Scalar.addi c0_i32_1013 v1430
  v1431.toNat
def k0_dev26 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1016 : BitVec 32 := 5#32
  let v1438 : BitVec 32 := Scalar.addi v2 c5_i32_1016
  let c8_i32_1017 : BitVec 32 := 8#32
  let v1439 : BitVec 32 := Scalar.remsi v1438 c8_i32_1017
  let c1_i32_1019 : BitVec 32 := 1#32
  let v1440 : BitVec 32 := Scalar.muli v1439 c1_i32_1019
  let v1441 : BitVec 32 := Scalar.addi c0_i32_1020 v1440
  v1441.toNat
def k0_dev27 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1023 : BitVec 32 := 6#32
  let v1448 : BitVec 32 := Scalar.addi v2 c6_i32_1023
  let c8_i32_1024 : BitVec 32 := 8#32
  let v1449 : BitVec 32 := Scalar.remsi v1448 c8_i32_1024
  let c1_i32_1026 : BitVec 32 := 1#32
  let v1450 : BitVec 32 := Scalar.muli v1449 c1_i32_1026
  let v1451 : BitVec 32 := Scalar.addi c0_i32_1027 v1450
  v1451.toNat
def k0_dev28 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1030 : BitVec 32 := 7#32
  let v1458 : BitVec 32 := Scalar.addi v2 c7_i32_1030
  let c8_i32_1031 : BitVec 32 := 8#32
  let v1459 : BitVec 32 := Scalar.remsi v1458 c8_i32_1031
  let c1_i32_1033 : BitVec 32 := 1#32
  let v1460 : BitVec 32 := Scalar.muli v1459 c1_i32_1033
  let v1461 : BitVec 32 := Scalar.addi c0_i32_1034 v1460
  v1461.toNat
def k0_off48 (d0 : Dev nD) (c1_i32_1037 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1468 : BitVec 32 := Scalar.addi v2 c1_i32_1037
  let c8_i32_1038 : BitVec 32 := 8#32
  let v1469 : BitVec 32 := Scalar.remsi v1468 c8_i32_1038
  ![v1469.toNat]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 143
  | .vmem => 0
  | .smem => 0
  | _ => 0

abbrev hbmTy0_0 (i : Nat) : BufTy := match i % 128 with
  | 0 => ⟨S2x256x512, .bf16⟩
  | 1 => ⟨S512x256, .bf16⟩
  | 2 => ⟨S2x2048x4x64, .bf16⟩
  | 3 => ⟨S2x2048x4x64, .bf16⟩
  | 4 => ⟨S256x512, .bf16⟩
  | 5 => ⟨S2x256x256, .f32⟩
  | 6 => ⟨S2x256x256, .bf16⟩
  | 7 => ⟨S2x256x4x64, .bf16⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S2048, .i32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S1x2048, .i32⟩
  | 48 => ⟨S256x2048, .i32⟩
  | 49 => ⟨S256x2048, .i32⟩
  | 50 => ⟨S256x2048, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x2048, .i32⟩
  | 58 => ⟨S1x2048, .i32⟩
  | 59 => ⟨S_, .i32⟩
  | 60 => ⟨S1x2048, .i32⟩
  | 61 => ⟨S1x2048, .i1⟩
  | 62 => ⟨S_, .i32⟩
  | 63 => ⟨S1x2048, .i32⟩
  | 64 => ⟨S1x2048, .i1⟩
  | 65 => ⟨S_, .i32⟩
  | 66 => ⟨S_, .i1⟩
  | 67 => ⟨S1x2048, .i1⟩
  | 68 => ⟨S1x2048, .i1⟩
  | 69 => ⟨S1x2048, .i1⟩
  | 70 => ⟨S1x2048, .i32⟩
  | 71 => ⟨S1x2048, .i32⟩
  | 72 => ⟨S1x2048, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S256x1, .i32⟩
  | 80 => ⟨S256x1, .i32⟩
  | 81 => ⟨S_, .i32⟩
  | 82 => ⟨S256x1, .i32⟩
  | 83 => ⟨S256x1, .i1⟩
  | 84 => ⟨S_, .i32⟩
  | 85 => ⟨S256x1, .i32⟩
  | 86 => ⟨S256x1, .i1⟩
  | 87 => ⟨S_, .i32⟩
  | 88 => ⟨S_, .i1⟩
  | 89 => ⟨S256x1, .i1⟩
  | 90 => ⟨S256x1, .i1⟩
  | 91 => ⟨S256x1, .i1⟩
  | 92 => ⟨S256x1, .i32⟩
  | 93 => ⟨S256x1, .i32⟩
  | 94 => ⟨S256x1, .i32⟩
  | 95 => ⟨S256x2048, .i32⟩
  | 96 => ⟨S256x2048, .i32⟩
  | 97 => ⟨S256x2048, .i1⟩
  | 98 => ⟨S256x2048, .i1⟩
  | 99 => ⟨S2x4x256x2048, .f32⟩
  | 100 => ⟨S2x4x256x2048, .bf16⟩
  | 101 => ⟨S2x4x256x2048, .f32⟩
  | 102 => ⟨S_, .f32⟩
  | 103 => ⟨S2x4x256x2048, .f32⟩
  | 104 => ⟨S2x4x256x2048, .f32⟩
  | 105 => ⟨S1x1x256x2048, .i1⟩
  | 106 => ⟨S_, .f32⟩
  | 107 => ⟨S_, .f32⟩
  | 108 => ⟨S2x4x256x2048, .i1⟩
  | 109 => ⟨S2x4x256x2048, .f32⟩
  | 110 => ⟨S2x4x256x2048, .f32⟩
  | 111 => ⟨S_, .f32⟩
  | 112 => ⟨S2x4x256, .f32⟩
  | 113 => ⟨S2x4x256x1, .f32⟩
  | 114 => ⟨S2x4x256x2048, .f32⟩
  | 115 => ⟨S2x4x256x2048, .f32⟩
  | 116 => ⟨S2x4x256x2048, .f32⟩
  | 117 => ⟨S_, .i1⟩
  | 118 => ⟨S256, .i1⟩
  | 119 => ⟨S1x1x256x1, .i1⟩
  | 120 => ⟨S_, .f32⟩
  | 121 => ⟨S2x4x256, .f32⟩
  | 122 => ⟨S2x4x256x1, .f32⟩
  | 123 => ⟨S_, .f32⟩
  | 124 => ⟨S_, .f32⟩
  | 125 => ⟨S2x4x256x1, .i1⟩
  | 126 => ⟨S2x4x256x1, .f32⟩
  | 127 => ⟨S2x4x256x1, .f32⟩
  | _ => ⟨S2x256x512, .bf16⟩

abbrev hbmTy0_1 (i : Nat) : BufTy := match i % 128 with
  | 0 => ⟨S2x4x256x2048, .f32⟩
  | 1 => ⟨S2x4x256x2048, .f32⟩
  | 2 => ⟨S1x1x256x1, .i1⟩
  | 3 => ⟨S_, .f32⟩
  | 4 => ⟨S_, .f32⟩
  | 5 => ⟨S2x4x256x2048, .i1⟩
  | 6 => ⟨S2x4x256x2048, .f32⟩
  | 7 => ⟨S2x4x256x2048, .f32⟩
  | 8 => ⟨S2x2048x4x64, .f32⟩
  | 9 => ⟨S2x4x64x256, .f32⟩
  | 10 => ⟨S2x256x4x64, .f32⟩
  | 11 => ⟨S2x256x256, .f32⟩
  | 12 => ⟨S256x512, .f32⟩
  | 13 => ⟨S2x256x512, .f32⟩
  | 14 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Base.lean ====
/-
  The resource algebra and the abbreviations the proofs share.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Rounds
public import Idealize.ShloMosaic.Lib.Tactic

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline library's ghost state beside the exchange's: a duty of a cell is named by the device that pays it. -/
abbrev UU : Type := UR sig nD τ × URounds (GSem nD τ sig) (Dev nD)

/-- The propositions of the proof. -/
abbrev MM (F : FTy → Type) : Type := MT nD τ sig Unit (Elt F) ℕ UU ℕ

/-- The pipeline library's component. -/
abbrev EP : Emb (UR sig nD τ) (MM F) := embL
/-- The exchange's component. -/
abbrev ER : Emb (URounds (GSem nD τ sig) (Dev nD)) (MM F) := embR

/-- No loop of the kernel needs a variant. -/
abbrev 𝒱₀ : Variants := Variants.none

end Cert.KernelIdeal.P

end
-- ==== Proof.Steps.lean ====
/-
  The kernel's body told again in its own loops: the printed sequence of operations, with each of the
  kernel's seven-fold repetitions as one function of the peer's number. Equal to the printed body by
  unfolding, so every later module speaks about one step per kind instead of every printed line.
-/
module

public import proofs.«01_k».proof.Proof.Base

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- A program of the kernel. -/
abbrev Pg (F : FTy → Type) [FloatOps F] (α : Type) := Prog (TpuEff nD τ sig (Elt F) Λ₀ .tc) α

/-! ## The buffers and the semaphores the body names -/

/-- The queries. -/
abbrev X0 : Memref sig .tc .vmem S512x512 .bf16 := Memref.whole cc0_stg0_0
/-- The query weights. -/
abbrev X1 : Memref sig .tc .vmem S512x256 .bf16 := Memref.whole cc0_stg1_0
/-- The keys. -/
abbrev X2 : Memref sig .tc .vmem S512x4x64 .bf16 := Memref.whole cc0_stg2_0
/-- The values. -/
abbrev X3 : Memref sig .tc .vmem S512x4x64 .bf16 := Memref.whole cc0_stg3_0
/-- The output weights. -/
abbrev X4 : Memref sig .tc .vmem S256x512 .bf16 := Memref.whole cc0_stg4_0
/-- The result. -/
abbrev X5 : Memref sig .tc .vmem S2x256x512 .bf16 := Memref.whole cc0_stg5_0
/-- The flat keys. -/
abbrev X6 : Memref sig .tc .vmem S512x256 .bf16 := Memref.whole cc0_scratch0
/-- The flat values. -/
abbrev X7 : Memref sig .tc .vmem S512x256 .bf16 := Memref.whole cc0_scratch1
/-- The landing buffer. -/
abbrev X8 : Memref sig .tc .vmem S8x2x64x256 .bf16 := Memref.whole cc0_scratch2
/-- The scores. -/
abbrev X9 : Memref sig .tc .vmem S4x8x64x64 .f32 := Memref.whole cc0_scratch3
/-- The context. -/
abbrev X10 : Memref sig .tc .vmem S512x256 .bf16 := Memref.whole cc0_scratch4

/-- The landing buffer is whole. -/
theorem hX8 : X8.IsWhole := Memref.isWhole_whole _
/-- The context is whole. -/
theorem hX10 : X10.IsWhole := Memref.isWhole_whole _

/-- The barrier's semaphore. -/
abbrev barS : Sem sig := (SemArray.scalar (sig.barrier 0 rfl) : Sems sig S_).sem

/-! ## The devices the seven steps of each loop address -/

/-- The device each signal goes to. -/
def sigDev (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]
/-- The device each copy of keys goes to. -/
def kDev (d : Dev nD) : Fin 7 → Dev nD :=
  ![⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩]
/-- The device each copy of values goes to. -/
def vDev (d : Dev nD) : Fin 7 → Dev nD :=
  ![⟨k0_dev15 d, k0_dev15_lt d⟩, ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩]
/-- The device each copy of context goes to. -/
def cDev (d : Dev nD) : Fin 7 → Dev nD :=
  ![⟨k0_dev22 d, k0_dev22_lt d⟩, ⟨k0_dev23 d, k0_dev23_lt d⟩, ⟨k0_dev24 d, k0_dev24_lt d⟩, ⟨k0_dev25 d, k0_dev25_lt d⟩,
    ⟨k0_dev26 d, k0_dev26_lt d⟩, ⟨k0_dev27 d, k0_dev27_lt d⟩, ⟨k0_dev28 d, k0_dev28_lt d⟩]

/-- The trip constant of step `r`: the printed lines pass `1` to `7`. -/
abbrev tw (r : Fin 7) : BitVec 32 := BitVec.ofNat 32 (1 + r.val)

/-- Seven steps in order. -/
def each (f : Fin 7 → Pg F PUnit) : Pg F PUnit := do
  f 0; f 1; f 2; f 3; f 4; f 5; f 6

/-! ## The semaphores and the windows of the transfers -/

/-- A send cell of the first exchange lies in its array. -/
theorem inb14 (i : Fin 14) : ∀ a, (![i.val] : Fin 1 → ℕ) a + S1.size a ≤ S14.size a := by
  revert i; decide
/-- A send cell of the second exchange lies in its array. -/
theorem inb7 (i : Fin 7) : ∀ a, (![i.val] : Fin 1 → ℕ) a + S1.size a ≤ S7.size a := by
  revert i; decide

/-- The send cell of the K copy (`i < 7`) or V copy number `i`. -/
abbrev s1S (i : Fin 14) : DmaSem sig :=
  ((cc0_scratch5.slice (Rect.unit (s := S14) ![i.val] S1.size (inb14 i))).squeeze S_ squeezes_S1_S_).sem
/-- The send cell of the context copy number `i`. -/
abbrev s2S (i : Fin 7) : DmaSem sig :=
  ((cc0_scratch7.slice (Rect.unit (s := S7) ![i.val] S1.size (inb7 i))).squeeze S_ squeezes_S1_S_).sem
/-- The receive cell of `recv1` at an offset. -/
abbrev r1S (o : Fin 2 → ℕ) (h : ∀ a, o a + S1x1.size a ≤ S8x2.size a) : DmaSem sig :=
  ((cc0_scratch6.slice (Rect.unit (s := S8x2) o S1x1.size h)).squeeze S_ squeezes_S1x1_S_).sem
/-- The receive cell of `recv2` at an offset. -/
abbrev r2S (o : Fin 1 → ℕ) (h : ∀ a, o a + S1.size a ≤ S8.size a) : DmaSem sig :=
  ((cc0_scratch8.slice (Rect.unit (s := S8) o S1.size h)).squeeze S_ squeezes_S1_S_).sem
/-- Sixty-four rows of one of the 512-row buffers. -/
abbrev rowW (m : Memref sig .tc .vmem S512x256 .bf16) (o : Fin 2 → ℕ) (h : ∀ a, o a + S64x256.size a ≤ S512x256.size a) :
    Memref sig .tc .vmem S64x256 .bf16 :=
  m.slice (Rect.unit (s := S512x256) o S64x256.size h) (fun _ => rfl)
/-- One block of the landing buffer. -/
abbrev kvW (o : Fin 4 → ℕ) (h : ∀ a, o a + S1x1x64x256.size a ≤ S8x2x64x256.size a) :
    Memref sig .tc .vmem S64x256 .bf16 :=
  (X8.slice (Rect.unit (s := S8x2x64x256) o S1x1x64x256.size h) (fun _ => rfl)).squeeze S64x256 squeezes_S1x1x64x256_S64x256

/-! ## One step of each kind -/

/-- One head of one block copied from the wide buffer to the flat one. -/
def head (src : Memref sig .tc .vmem S512x4x64 .bf16) (dst : Memref sig .tc .vmem S512x256 .bf16) (hd : dst.IsWhole)
    (oS : Fin 3 → ℕ) (iS : ∀ a, oS a + S64x1x64.size a ≤ S512x4x64.size a)
    (oD : Fin 2 → ℕ) (iD : ∀ a, oD a + S64x64.size a ≤ S512x256.size a)
    (pk : (Rect.unit (s := S512x256) oD S64x64.size iD).PackedRows (EltTy.packing .bf16)) : Pg F PUnit := do
  let v : Vec F S64x1x64 .bf16 ← Prog.lift (.load src (Rect.unit (s := S512x4x64) oS S64x1x64.size iS).toLoadRect (View.loadsAt_vmem h_S64x1x64))
  let _ : Vec F S64x64 .bf16 ← Prog.lift (.load dst (Rect.unit (s := S512x256) oD S64x64.size iD).toLoadRect (View.loadsAt_vmem h_S64x64))
  Prog.lift (.store dst (Rect.unit (s := S512x256) oD S64x64.size iD) (k0_pay2 v) Finset.univ (View.stores_vmem h_S64x64 (hd.storeExact_slice rfl _ pk) (fun _ => rfl)) (.inl rfl))

/-- The device's own block copied to the flat buffer, head by head. -/
def ownRelay (src : Memref sig .tc .vmem S512x4x64 .bf16) (dst : Memref sig .tc .vmem S512x256 .bf16) (hd : dst.IsWhole)
    (d : Dev nD) : Pg F PUnit := do
  head src dst hd (k0_off1 d) (k0_off1_inb d) (k0_off2 d) (k0_off2_inb d) (k0_off2_packedbf16 d)
  head src dst hd (k0_off3 d) (k0_off3_inb d) (k0_off4 d) (k0_off4_inb d) (k0_off4_packedbf16 d)
  head src dst hd (k0_off5 d) (k0_off5_inb d) (k0_off6 d) (k0_off6_inb d) (k0_off6_packedbf16 d)
  head src dst hd (k0_off7 d) (k0_off7_inb d) (k0_off8 d) (k0_off8_inb d) (k0_off8_packedbf16 d)

/-- Peer `r`'s block copied to the flat buffer, head by head. -/
def relay (src : Memref sig .tc .vmem S512x4x64 .bf16) (dst : Memref sig .tc .vmem S512x256 .bf16) (hd : dst.IsWhole)
    (d : Dev nD) (r : Fin 7) : Pg F PUnit := do
  head src dst hd (k0_off12 d (tw r)) (k0_off12_inb d r) (k0_off13 d (tw r)) (k0_off13_inb d r) (k0_off13_packedbf16 d r)
  head src dst hd (k0_off14 d (tw r)) (k0_off14_inb d r) (k0_off15 d (tw r)) (k0_off15_inb d r) (k0_off15_packedbf16 d r)
  head src dst hd (k0_off16 d (tw r)) (k0_off16_inb d r) (k0_off17 d (tw r)) (k0_off17_inb d r) (k0_off17_packedbf16 d r)
  head src dst hd (k0_off18 d (tw r)) (k0_off18_inb d r) (k0_off19 d (tw r)) (k0_off19_inb d r) (k0_off19_packedbf16 d r)

/-- The device's own block kept in its landing buffer. -/
def keep (src : Memref sig .tc .vmem S512x256 .bf16) (d : Dev nD)
    (o : Fin 4 → ℕ) (i : ∀ a, o a + S1x1x64x256.size a ≤ S8x2x64x256.size a)
    (pk : (Rect.unit (s := S8x2x64x256) o S1x1x64x256.size i).PackedRows (EltTy.packing .bf16)) : Pg F PUnit := do
  let v : Vec F S64x256 .bf16 ← Prog.lift (.load src (Rect.unit (s := S512x256) (k0_off9 d) S64x256.size (k0_off9_inb d)).toLoadRect (View.loadsAt_vmem h_S64x256))
  let _ : Vec F S1x1x64x256 .bf16 ← Prog.lift (.load X8 (Rect.unit (s := S8x2x64x256) o S1x1x64x256.size i).toLoadRect (View.loadsAt_vmem h_S1x1x64x256))
  Prog.lift (.store X8 (Rect.unit (s := S8x2x64x256) o S1x1x64x256.size i) (k0_pay11 v) Finset.univ (View.stores_vmem h_S1x1x64x256 (hX8.storeExact_slice rfl _ pk) (fun _ => rfl)) (.inl rfl))

/-- A copy of peer `r`'s rows of a flat buffer into this device's block of the peer's landing buffer. -/
def sendKV (src : Memref sig .tc .vmem S512x256 .bf16) (hs : src.IsWhole) (d p : Dev nD) (r : Fin 7) (i : Fin 14)
    (oR : Fin 2 → ℕ) (iR : ∀ a, oR a + S1x1.size a ≤ S8x2.size a)
    (oK : Fin 4 → ℕ) (iK : ∀ a, oK a + S1x1x64x256.size a ≤ S8x2x64x256.size a)
    (wK : (Rect.unit (s := S8x2x64x256) oK S1x1x64x256.size iK).WholeWords (EltTy.packing .bf16)) : Pg F PUnit :=
  Prog.lift (.enqueueDma (rowW src (k0_off22 d (tw r)) (k0_off22_inb d r))
    (.remote (Dev.tc p) (kvW oK iK) (.dma (s1S i))) (.dma (r1S oR iR))
    (hs.wordExact_slice rfl _ (k0_off22_wordsbf16 d r)) ((hX8.wordExact_slice rfl _ wK).reshape _ _) ⟨⟨rfl, Or.inl rfl⟩, trivial⟩)

/-- The wait for a landing in the landing buffer. -/
def waitKV (oR : Fin 2 → ℕ) (iR : ∀ a, oR a + S1x1.size a ≤ S8x2.size a)
    (oK : Fin 4 → ℕ) (iK : ∀ a, oK a + S1x1x64x256.size a ≤ S8x2x64x256.size a)
    (wK : (Rect.unit (s := S8x2x64x256) oK S1x1x64x256.size iK).WholeWords (EltTy.packing .bf16)) : Pg F PUnit :=
  Prog.lift (.waitDma2 (r1S oR iR) (kvW oK iK) (kvW oK iK)
    ((hX8.wordExact_slice rfl _ wK).reshape _ _) ((hX8.wordExact_slice rfl _ wK).reshape _ _))

/-- The scores of one head against one block, from the query rows. -/
def score (q : FVec F S64x256 .bf16) (pay : FVec F S64x256 .bf16 → Vec F S1x1x64x64 .bf16 → FVec F S1x1x64x64 .f32)
    (oK : Fin 4 → ℕ) (iK : ∀ a, oK a + S1x1x64x64.size a ≤ S8x2x64x256.size a)
    (oS : Fin 4 → ℕ) (iS : ∀ a, oS a + S1x1x64x64.size a ≤ S4x8x64x64.size a) : Pg F PUnit := do
  let v : Vec F S1x1x64x64 .bf16 ← Prog.lift (.load X8 (Rect.unit (s := S8x2x64x256) oK S1x1x64x64.size iK).toLoadRect (View.loadsAt_vmem h_S1x1x64x64))
  let _ : Vec F S1x1x64x64 .f32 ← Prog.lift (.load X9 (Rect.unit (s := S4x8x64x64) oS S1x1x64x64.size iS).toLoadRect (View.loadsAt_vmem h_S1x1x64x64))
  Prog.lift (.store X9 (Rect.unit (s := S4x8x64x64) oS S1x1x64x64.size iS) (pay q v) Finset.univ (View.stores_vmem_bits_univ h_S1x1x64x64 rfl) (.inl rfl))

/-- The scores of the four heads against the device's own block. -/
def ownScores (q : FVec F S64x256 .bf16) (d : Dev nD) : Pg F PUnit := do
  score q k0_pay85 (k0_off26 d) (k0_off26_inb d) (k0_off27 d) (k0_off27_inb d)
  score q k0_pay82 (k0_off28 d) (k0_off28_inb d) (k0_off29 d) (k0_off29_inb d)
  score q k0_pay83 (k0_off30 d) (k0_off30_inb d) (k0_off31 d) (k0_off31_inb d)
  score q k0_pay84 (k0_off32 d) (k0_off32_inb d) (k0_off33 d) (k0_off33_inb d)

/-- The scores of the four heads against the block that step `r` awaits. -/
def scores (q : FVec F S64x256 .bf16) (d : Dev nD) (r : Fin 7) : Pg F PUnit := do
  score q k0_pay85 (k0_off36 d (tw r)) (k0_off36_inb d r) (k0_off37 d (tw r)) (k0_off37_inb d r)
  score q k0_pay82 (k0_off38 d (tw r)) (k0_off38_inb d r) (k0_off39 d (tw r)) (k0_off39_inb d r)
  score q k0_pay83 (k0_off40 d (tw r)) (k0_off40_inb d r) (k0_off41 d (tw r)) (k0_off41_inb d r)
  score q k0_pay84 (k0_off42 d (tw r)) (k0_off42_inb d r) (k0_off43 d (tw r)) (k0_off43_inb d r)

/-- The weights of one head: the softmax over the blocks and the keys, rounded. -/
abbrev weights (s : Vec F S1x8x64x64 .f32) : FVec F S8x64x64 .bf16 := k0_pay127 s

/-- One block's term added to the accumulator. -/
def accBlk (P : FVec F S8x64x64 .bf16) (c : ℕ) (hc : S8x64x64.Slices ![c, 0, 0] S1x64x64)
    (v : Vec F S1x1x64x64 .bf16) (a : FVec F S64x64 .f32) : FVec F S64x64 .f32 :=
  addf a (matmul dot_S64x64_S64x64_S64x64_1_0_0_1_n_n none
    (shapeCast S64x64 (extractStridedSlice S1x64x64 ![c, 0, 0] P hc) shapeCasts_S1x64x64_S64x64)
    (shapeCast S64x64 v shapeCasts_S1x1x64x64_S64x64) (constant S64x64 .f32 0x00000000#32))

/-- What one head stores: the eight blocks' terms added in order, rounded. -/
def ctxHead (s : Vec F S1x8x64x64 .f32) (v : Fin 8 → Vec F S1x1x64x64 .bf16) : FVec F S64x64 .bf16 :=
  shapeCast S64x64 (truncf .bf16
    (accBlk (weights s) 7 slices_S8x64x64_o7_0_0_S1x64x64 (v 7)
    (accBlk (weights s) 6 slices_S8x64x64_o6_0_0_S1x64x64 (v 6)
    (accBlk (weights s) 5 slices_S8x64x64_o5_0_0_S1x64x64 (v 5)
    (accBlk (weights s) 4 slices_S8x64x64_o4_0_0_S1x64x64 (v 4)
    (accBlk (weights s) 3 slices_S8x64x64_o3_0_0_S1x64x64 (v 3)
    (accBlk (weights s) 2 slices_S8x64x64_o2_0_0_S1x64x64 (v 2)
    (accBlk (weights s) 1 slices_S8x64x64_o1_0_0_S1x64x64 (v 1)
    (accBlk (weights s) 0 slices_S8x64x64_o0_0_0_S1x64x64 (v 0)
      (broadcast S64x64 (Scalar.ofBits .f32 0x00000000#32))))))))))
    bitsLt_bf16_f32) shapeCasts_S64x64_S64x64

/-- A head's scores lie in the scores. -/
theorem inbSc (h : Fin 4) : ∀ a, (![h.val, 0, 0, 0] : Fin 4 → ℕ) a + S1x8x64x64.size a ≤ S4x8x64x64.size a := by
  revert h; decide
/-- A head's values lie in the landing buffer. -/
theorem inbKv (c : Fin 8) (h : Fin 4) : ∀ a, (![c.val, 1, 0, 64 * h.val] : Fin 4 → ℕ) a + S1x1x64x64.size a ≤ S8x2x64x256.size a := by
  revert c h; decide

/-- The read of one head's V columns of one block. -/
abbrev ldV (h : Fin 4) (c : Fin 8) : Pg F (Vec F S1x1x64x64 .bf16) :=
  Prog.lift (.load X8 (Rect.unit (s := S8x2x64x256) ![c.val, 1, 0, 64 * h.val] S1x1x64x64.size (inbKv c h)).toLoadRect (View.loadsAt_vmem h_S1x1x64x64))

/-- One head of the device's context rows. -/
def attn (h : Fin 4) (oD : Fin 2 → ℕ) (iD : ∀ a, oD a + S64x64.size a ≤ S512x256.size a)
    (pk : (Rect.unit (s := S512x256) oD S64x64.size iD).PackedRows (EltTy.packing .bf16)) : Pg F PUnit := do
  let s : Vec F S1x8x64x64 .f32 ← Prog.lift (.load X9 (Rect.unit (s := S4x8x64x64) ![h.val, 0, 0, 0] S1x8x64x64.size (inbSc h)).toLoadRect (View.loadsAt_vmem h_S1x8x64x64))
  let v0 ← ldV h 0
  let v1 ← ldV h 1
  let v2 ← ldV h 2
  let v3 ← ldV h 3
  let v4 ← ldV h 4
  let v5 ← ldV h 5
  let v6 ← ldV h 6
  let v7 ← ldV h 7
  let _ : Vec F S64x64 .bf16 ← Prog.lift (.load X10 (Rect.unit (s := S512x256) oD S64x64.size iD).toLoadRect (View.loadsAt_vmem h_S64x64))
  Prog.lift (.store X10 (Rect.unit (s := S512x256) oD S64x64.size iD) (ctxHead s ![v0, v1, v2, v3, v4, v5, v6, v7]) Finset.univ (View.stores_vmem h_S64x64 (hX10.storeExact_slice rfl _ pk) (fun _ => rfl)) (.inl rfl))

/-- The copy of the device's context rows to peer number `r`. -/
def sendC (d p : Dev nD) (r : Fin 7) : Pg F PUnit :=
  Prog.lift (.enqueueDma (rowW X10 (k0_off47 d) (k0_off47_inb d))
    (.remote (Dev.tc p) (rowW X10 (k0_off47 d) (k0_off47_inb d)) (.dma (s2S r))) (.dma (r2S (k0_off46 d) (k0_off46_inb d)))
    (hX10.wordExact_slice rfl _ (k0_off47_wordsbf16 d)) (hX10.wordExact_slice rfl _ (k0_off47_wordsbf16 d)) ⟨⟨rfl, Or.inl rfl⟩, trivial⟩)

/-- The wait for peer number `r`'s context rows. -/
def waitC (d : Dev nD) (r : Fin 7) : Pg F PUnit :=
  Prog.lift (.waitDma2 (r2S (k0_off48 d (tw r)) (k0_off48_inb d r)) (rowW X10 (k0_off22 d (tw r)) (k0_off22_inb d r))
    (rowW X10 (k0_off22 d (tw r)) (k0_off22_inb d r))
    (hX10.wordExact_slice rfl _ (k0_off22_wordsbf16 d r)) (hX10.wordExact_slice rfl _ (k0_off22_wordsbf16 d r)))

/-- The wait for the departure of a K or V copy. -/
def waitSent (src : Memref sig .tc .vmem S512x256 .bf16) (hs : src.IsWhole) (d : Dev nD) (r : Fin 7) (i : Fin 14)
    (oK : Fin 4 → ℕ) (iK : ∀ a, oK a + S1x1x64x256.size a ≤ S8x2x64x256.size a)
    (wK : (Rect.unit (s := S8x2x64x256) oK S1x1x64x256.size iK).WholeWords (EltTy.packing .bf16)) : Pg F PUnit :=
  Prog.lift (.waitDma2 (s1S i) (kvW oK iK) (rowW src (k0_off22 d (tw r)) (k0_off22_inb d r))
    ((hX8.wordExact_slice rfl _ wK).reshape _ _) (hs.wordExact_slice rfl _ (k0_off22_wordsbf16 d r)))

/-- The wait for the departure of a context copy. -/
def waitSentC (d : Dev nD) (r : Fin 7) : Pg F PUnit :=
  Prog.lift (.waitDma2 (s2S r) (rowW X10 (k0_off47 d) (k0_off47_inb d)) (rowW X10 (k0_off47 d) (k0_off47_inb d))
    (hX10.wordExact_slice rfl _ (k0_off47_wordsbf16 d)) (hX10.wordExact_slice rfl _ (k0_off47_wordsbf16 d)))

/-! ## The body -/

/-- The flat keys are whole. -/
theorem hX6 : X6.IsWhole := Memref.isWhole_whole _
/-- The flat values are whole. -/
theorem hX7 : X7.IsWhole := Memref.isWhole_whole _

/-- The K copy number `r`. -/
abbrev kIx (r : Fin 7) : Fin 14 := ⟨r.val, by omega⟩
/-- The V copy number `r`. -/
abbrev vIx (r : Fin 7) : Fin 14 := ⟨7 + r.val, by omega⟩

/-- The first part: the signals, the own block, the barrier, the K and V copies. -/
def phaseA (d : Dev nD) : Pg F PUnit := do
  each fun r => semSignalWord (sigDev d r) barS 1#32
  ownRelay X2 X6 hX6 d
  ownRelay X3 X7 hX7 d
  keep X6 d (k0_off10 d) (k0_off10_inb d) (k0_off10_packedbf16 d)
  keep X7 d (k0_off11 d) (k0_off11_inb d) (k0_off11_packedbf16 d)
  semWaitWord barS 7#32
  each fun r => do
    relay X2 X6 hX6 d r
    sendKV X6 hX6 d (kDev d r) r (kIx r) (k0_off20 d) (k0_off20_inb d) (k0_off21 d) (k0_off21_inb d) (k0_off21_wordsbf16 d)
  each fun r => do
    relay X3 X7 hX7 d r
    sendKV X7 hX7 d (vDev d r) r (vIx r) (k0_off23 d) (k0_off23_inb d) (k0_off24 d) (k0_off24_inb d) (k0_off24_wordsbf16 d)

/-- The second part: the query rows and the scores, each block's awaited first. -/
def phaseB (d : Dev nD) : Pg F PUnit := do
  let x : Vec F S64x512 .bf16 ← Prog.lift (.load X0 (Rect.unit (s := S512x512) (k0_off25 d) S64x512.size (k0_off25_inb d)).toLoadRect (View.loadsAt_vmem h_S64x512))
  let w : Vec F S512x256 .bf16 ← Prog.lift (.load X1 (Rect.unit (s := S512x256) ![0, 0] S512x256.size inb_S512x256_S512x256_0_0).toLoadRect (View.loadsAt_vmem h_S512x256))
  ownScores (k0_pay79 x w) d
  each fun r => do
    waitKV (k0_off34 d (tw r)) (k0_off34_inb d r) (k0_off35 d (tw r)) (k0_off35_inb d r) (k0_off35_wordsbf16 d r)
    scores (k0_pay79 x w) d r
  each fun r =>
    waitKV (k0_off44 d (tw r)) (k0_off44_inb d r) (k0_off45 d (tw r)) (k0_off45_inb d r) (k0_off45_wordsbf16 d r)

/-- The third part: the device's context rows, sent to every peer; the peers' rows awaited, then every departure. -/
def phaseC (d : Dev nD) : Pg F PUnit := do
  attn 0 (k0_off2 d) (k0_off2_inb d) (k0_off2_packedbf16 d)
  attn 1 (k0_off4 d) (k0_off4_inb d) (k0_off4_packedbf16 d)
  attn 2 (k0_off6 d) (k0_off6_inb d) (k0_off6_packedbf16 d)
  attn 3 (k0_off8 d) (k0_off8_inb d) (k0_off8_packedbf16 d)
  each fun r => sendC d (cDev d r) r
  each fun r => waitC d r
  each fun r => waitSent X6 hX6 d r (kIx r) (k0_off21 d) (k0_off21_inb d) (k0_off21_wordsbf16 d)
  each fun r => waitSent X7 hX7 d r (vIx r) (k0_off24 d) (k0_off24_inb d) (k0_off24_wordsbf16 d)
  each fun r => waitSentC d r

/-- The last part: the product with the output weights. -/
def phaseD : Pg F PUnit := do
  let c : Vec F S512x256 .bf16 ← Prog.lift (.load X10 (Rect.unit (s := S512x256) ![0, 0] S512x256.size inb_S512x256_S512x256_0_0).toLoadRect (View.loadsAt_vmem h_S512x256))
  let w : Vec F S256x512 .bf16 ← Prog.lift (.load X4 (Rect.unit (s := S256x512) ![0, 0] S256x512.size inb_S256x512_S256x512_0_0).toLoadRect (View.loadsAt_vmem h_S256x512))
  let _ : Vec F S2x256x512 .bf16 ← Prog.lift (.load X5 (Rect.unit (s := S2x256x512) ![0, 0, 0] S2x256x512.size inb_S2x256x512_S2x256x512_0_0_0).toLoadRect (View.loadsAt_vmem h_S2x256x512))
  Prog.lift (.store X5 (Rect.unit (s := S2x256x512) ![0, 0, 0] S2x256x512.size inb_S2x256x512_S2x256x512_0_0_0) (k0_pay1 c w) Finset.univ (View.stores_vmem h_S2x256x512 ((Memref.isWhole_whole cc0_stg5_0).storeExact_slice rfl _ packedbf16_S2x256x512_S2x256x512_0_0_0) (fun _ => rfl)) (.inl rfl))

/-- The whole body. -/
def told : Pg F PUnit := do
  let d : Dev nD ← Prog.lift .deviceId
  phaseA d
  phaseB d
  phaseC d
  phaseD

end Cert.KernelIdeal.P

end
-- ==== Proof.Places.lean ====
/-
  Where the exchange's data lies: the blocks each buffer is cut into, what each block holds as a function
  of the devices' arguments, and the reads of the body's rectangles through those contents.
-/
module

public import proofs.«01_k».proof.Proof.Steps
public import Idealize.ShloMosaic.Lib.ValueIdxCore
public import Idealize.ShloMosaic.Lib.Pointwise

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## Cutting a buffer by a key -/

/-- A held region is the star of the parts its elements' keys cut it into. -/
theorem pts_fibres {ℓ : Loc nD τ sig} {T : Type} [Fintype T] [DecidableEq T] (S : Finset (Idx ℓ)) (key : Idx ℓ → T)
    (q : PosShare TreeShare) (f : Buf (Elt F) ℓ) :
    (ℓ ↦[S]{q} f : sProp (MM F)) = bigSep Finset.univ fun t => ℓ ↦[S.filter fun i => key i = t]{q} f := by
  classical
  rw [← pointsTo_biUnion Finset.univ (fun t => S.filter fun i => key i = t)]
  · congr 1
    ext i
    simp
  · intro t _ t' _ h
    rw [Finset.disjoint_left]
    intro i h₁ h₂
    exact h ((Finset.mem_filter.mp h₁).2.symm.trans (Finset.mem_filter.mp h₂).2)

/-- A write agrees, on the view's elements, with any contents the view reads the written values from. -/
theorem write_agrees {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  rw [View.write_emb_of_mem (h := Finset.mem_univ x), ← h, View.read_apply, cast_cast, cast_eq]

/-! ## The keys -/

/-- The block of 64 rows an element of a 512-row buffer lies in. -/
def rb (i : S512x256.Idx) : Fin 8 := ⟨(i 0).val / 64, by have : (i 0).val < 512 := (i 0).isLt; omega⟩
/-- The head (64 columns) it lies in. -/
def ch (i : S512x256.Idx) : Fin 4 := ⟨(i 1).val / 64, by have : (i 1).val < 256 := (i 1).isLt; omega⟩
/-- The origin and the kind (0 for K, 1 for V) of an element of the landing buffer. -/
def kvKey (i : S8x2x64x256.Idx) : Fin 8 × Fin 2 := (i 0, i 1)
/-- The head and the origin of an element of the scores. -/
def scKey (i : S4x8x64x64.Idx) : Fin 4 × Fin 8 := (i 0, i 1)

/-- The rows of block `b`. -/
def rowP (b : Fin 8) : Finset S512x256.Idx := Finset.univ.filter fun i => rb i = b
/-- Block `b`'s columns of head `h`. -/
def boxP (b : Fin 8) (h : Fin 4) : Finset S512x256.Idx := (rowP b).filter fun i => ch i = h
/-- The landing place of origin `o`'s block of kind `t`. -/
def kvP (o : Fin 8) (t : Fin 2) : Finset S8x2x64x256.Idx := Finset.univ.filter fun i => kvKey i = (o, t)
/-- The scores of head `h` against origin `o`. -/
def scP (h : Fin 4) (o : Fin 8) : Finset S4x8x64x64.Idx := Finset.univ.filter fun i => scKey i = (h, o)

/-- When an index lies in a block of the landing buffer. -/
theorem mem_kvP {i : S8x2x64x256.Idx} {o : Fin 8} {t : Fin 2} : i ∈ kvP o t ↔ (i 0).val = o.val ∧ (i 1).val = t.val := by
  unfold kvP kvKey
  constructor
  · intro h
    have h' := (Finset.mem_filter.mp h).2
    exact ⟨congrArg (fun x : Fin 8 × Fin 2 => x.1.val) h', congrArg (fun x : Fin 8 × Fin 2 => x.2.val) h'⟩
  · rintro ⟨h0, h1⟩
    exact Finset.mem_filter.mpr ⟨Finset.mem_univ _, Prod.ext (Fin.ext h0) (Fin.ext h1)⟩

/-- When an index lies in a block of the scores. -/
theorem mem_scP {i : S4x8x64x64.Idx} {h : Fin 4} {o : Fin 8} : i ∈ scP h o ↔ (i 0).val = h.val ∧ (i 1).val = o.val := by
  unfold scP scKey
  constructor
  · intro h
    have h' := (Finset.mem_filter.mp h).2
    exact ⟨congrArg (fun x : Fin 4 × Fin 8 => x.1.val) h', congrArg (fun x : Fin 4 × Fin 8 => x.2.val) h'⟩
  · rintro ⟨h0, h1⟩
    exact Finset.mem_filter.mpr ⟨Finset.mem_univ _, Prod.ext (Fin.ext h0) (Fin.ext h1)⟩

/-! ## The rectangles -/

/-- A statement about four axes, one by one. -/
theorem forall4 {p : Fin 4 → Prop} : (∀ a, p a) ↔ p 0 ∧ p 1 ∧ p 2 ∧ p 3 :=
  ⟨fun h => ⟨h 0, h 1, h 2, h 3⟩, fun ⟨h0, h1, h2, h3⟩ a => by fin_cases a <;> assumption⟩

/-- A head's box of the wide buffer lies in it. -/
theorem inbHd (b : Fin 8) (h : Fin 4) : ∀ a, (![64 * b.val, h.val, 0] : Fin 3 → ℕ) a + S64x1x64.size a ≤ S512x4x64.size a := by
  revert b h; decide
/-- A head's box of a flat buffer lies in it. -/
theorem inbBox (b : Fin 8) (h : Fin 4) : ∀ a, (![64 * b.val, 64 * h.val] : Fin 2 → ℕ) a + S64x64.size a ≤ S512x256.size a := by
  revert b h; decide
/-- A row block of a flat buffer lies in it. -/
theorem inbRow (b : Fin 8) : ∀ a, (![64 * b.val, 0] : Fin 2 → ℕ) a + S64x256.size a ≤ S512x256.size a := by
  revert b; decide
/-- A row block of the queries lies in them. -/
theorem inbXr (b : Fin 8) : ∀ a, (![64 * b.val, 0] : Fin 2 → ℕ) a + S64x512.size a ≤ S512x512.size a := by
  revert b; decide
/-- A block of the landing buffer lies in it. -/
theorem inbBlk (o : Fin 8) (t : Fin 2) : ∀ a, (![o.val, t.val, 0, 0] : Fin 4 → ℕ) a + S1x1x64x256.size a ≤ S8x2x64x256.size a := by
  revert o t; decide
/-- A head's columns of a block of the landing buffer lie in it. -/
theorem inbKh (o : Fin 8) (t : Fin 2) (h : Fin 4) : ∀ a, (![o.val, t.val, 0, 64 * h.val] : Fin 4 → ℕ) a + S1x1x64x64.size a ≤ S8x2x64x256.size a := by
  revert o t h; decide
/-- A block of the scores lies in them. -/
theorem inbSo (h : Fin 4) (o : Fin 8) : ∀ a, (![h.val, o.val, 0, 0] : Fin 4 → ℕ) a + S1x1x64x64.size a ≤ S4x8x64x64.size a := by
  revert o h; decide

/-- Head `h` of block `b` in the wide buffers. -/
abbrev hdR (b : Fin 8) (h : Fin 4) : Rect S512x4x64 := Rect.unit (s := S512x4x64) ![64 * b.val, h.val, 0] S64x1x64.size (inbHd b h)
/-- Block `b`, head `h` in the flat buffers. -/
abbrev boxR (b : Fin 8) (h : Fin 4) : Rect S512x256 := Rect.unit (s := S512x256) ![64 * b.val, 64 * h.val] S64x64.size (inbBox b h)
/-- The rows of block `b` in the flat buffers. -/
abbrev rowR (b : Fin 8) : Rect S512x256 := Rect.unit (s := S512x256) ![64 * b.val, 0] S64x256.size (inbRow b)
/-- The rows of block `b` of the activations. -/
abbrev xR (b : Fin 8) : Rect S512x512 := Rect.unit (s := S512x512) ![64 * b.val, 0] S64x512.size (inbXr b)
/-- A block of the landing buffer. -/
abbrev blkR (o : Fin 8) (t : Fin 2) : Rect S8x2x64x256 := Rect.unit (s := S8x2x64x256) ![o.val, t.val, 0, 0] S1x1x64x256.size (inbBlk o t)
/-- One head's columns of a block of the landing buffer. -/
abbrev khR (o : Fin 8) (t : Fin 2) (h : Fin 4) : Rect S8x2x64x256 := Rect.unit (s := S8x2x64x256) ![o.val, t.val, 0, 64 * h.val] S1x1x64x64.size (inbKh o t h)
/-- The scores of one head against one origin. -/
abbrev soR (h : Fin 4) (o : Fin 8) : Rect S4x8x64x64 := Rect.unit (s := S4x8x64x64) ![h.val, o.val, 0, 0] S1x1x64x64.size (inbSo h o)
/-- All the scores of one head. -/
abbrev shR (h : Fin 4) : Rect S4x8x64x64 := Rect.unit (s := S4x8x64x64) ![h.val, 0, 0, 0] S1x8x64x64.size (inbSc h)

/-- The indices of a row block's rectangle. -/
theorem rowR_set (b : Fin 8) : (rowR b).set = rowP b := by
  ext i
  rw [Rect.mem_set_unit]
  have h1 : (i 1).val < 256 := (i 1).isLt
  simp only [Fin.forall_fin_two, rowP, Finset.mem_filter, Finset.mem_univ, true_and, rb, Fin.ext_iff]
  simp
  omega

/-- The indices of a box's rectangle. -/
theorem boxR_set (b : Fin 8) (h : Fin 4) : (boxR b h).set = boxP b h := by
  ext i
  rw [Rect.mem_set_unit]
  simp only [Fin.forall_fin_two, boxP, rowP, Finset.mem_filter, Finset.mem_univ, true_and, rb, ch, Fin.ext_iff]
  simp
  omega

/-- The indices of a landing block's rectangle. -/
theorem blkR_set (o : Fin 8) (t : Fin 2) : (blkR o t).set = kvP o t := by
  ext i
  rw [Rect.mem_set_unit]
  have h2 : (i 2).val < 64 := (i 2).isLt
  have h3 : (i 3).val < 256 := (i 3).isLt
  rw [forall4, mem_kvP]
  show ((o.val ≤ (i 0).val ∧ (i 0).val < o.val + 1) ∧ (t.val ≤ (i 1).val ∧ (i 1).val < t.val + 1) ∧
    (0 ≤ (i 2).val ∧ (i 2).val < 0 + 64) ∧ (0 ≤ (i 3).val ∧ (i 3).val < 0 + 256)) ↔ (i 0).val = o.val ∧ (i 1).val = t.val
  omega

/-- A head's columns lie in their landing block. -/
theorem khR_sub (o : Fin 8) (t : Fin 2) (h : Fin 4) : (khR o t h).set ⊆ kvP o t := by
  intro i hi
  rw [Rect.mem_set_unit] at hi
  rw [mem_kvP]
  have h0 : o.val ≤ (i 0).val ∧ (i 0).val < o.val + 1 := hi 0
  have h1 : t.val ≤ (i 1).val ∧ (i 1).val < t.val + 1 := hi 1
  omega

/-- The indices of a score block's rectangle. -/
theorem soR_set (h : Fin 4) (o : Fin 8) : (soR h o).set = scP h o := by
  ext i
  rw [Rect.mem_set_unit]
  have h2 : (i 2).val < 64 := (i 2).isLt
  have h3 : (i 3).val < 64 := (i 3).isLt
  rw [forall4, mem_scP]
  show ((h.val ≤ (i 0).val ∧ (i 0).val < h.val + 1) ∧ (o.val ≤ (i 1).val ∧ (i 1).val < o.val + 1) ∧
    (0 ≤ (i 2).val ∧ (i 2).val < 0 + 64) ∧ (0 ≤ (i 3).val ∧ (i 3).val < 0 + 64)) ↔ (i 0).val = h.val ∧ (i 1).val = o.val
  omega

/-! ## The contents -/

/-- The arguments of the kernel on every device. -/
structure Args (F : FTy → Type) where
  /-- The activations. -/
  x : Dev nD → Vec F S512x512 .bf16
  /-- The query weights. -/
  wq : Dev nD → Vec F S512x256 .bf16
  /-- The keys and the values: `kv c 0` the keys of device `c`, `kv c 1` its values. -/
  kv : Dev nD → Fin 2 → Vec F S512x4x64 .bf16
  /-- The output weights. -/
  wo : Dev nD → Vec F S256x512 .bf16

variable (A : Args F)

/-- A wide buffer laid flat: head `h`'s column `j` is column `64 h + j`. -/
def flat (K : Vec F S512x4x64 .bf16) : Vec F S512x256 .bf16 :=
  fun i => K (ix3 (n0 := 512) (n1 := 4) (n2 := 64) (i 0) (ch i) ⟨(i 1).val % 64, Nat.mod_lt _ (by decide)⟩)

/-- What device `c`'s landing buffer holds: origin `o`'s keys and values of row block `c`, laid flat. -/
def kvC (c : Dev nD) : Vec F S8x2x64x256 .bf16 :=
  fun i => flat (A.kv (i 0) (i 1)) (ix2 (n0 := 512) (n1 := 256) ⟨64 * c.val + (i 2).val, by
    have : (i 2).val < 64 := (i 2).isLt
    have : c.val < 8 := c.isLt
    omega⟩ (i 3))

/-- The query rows of device `c`. -/
def qC (c : Dev nD) : FVec F S64x256 .bf16 := k0_pay79 (fun i => A.x c ((xR c).emb i)) (A.wq c)

/-- The score product of each head. -/
def scPay : Fin 4 → FVec F S64x256 .bf16 → Vec F S1x1x64x64 .bf16 → FVec F S1x1x64x64 .f32 :=
  ![k0_pay85, k0_pay82, k0_pay83, k0_pay84]

/-- One head's columns of a block of device `c`'s landing buffer. -/
def khC (c : Dev nD) (o : Fin 8) (t : Fin 2) (h : Fin 4) : Vec F S1x1x64x64 .bf16 := fun i => kvC A c ((khR o t h).emb i)

/-- What device `c`'s scores hold. -/
def scC (c : Dev nD) : Vec F S4x8x64x64 .f32 :=
  fun i => scPay (i 0) (qC A c) (khC A c (i 1) 0 (i 0)) (ix4 (n0 := 1) (n1 := 1) (n2 := 64) (n3 := 64) 0 0 (i 2) (i 3))

/-- What device `c` stores for head `h`. -/
def hdC (c : Dev nD) (h : Fin 4) : FVec F S64x64 .bf16 :=
  ctxHead (fun i => scC A c ((shR h).emb i)) fun o => khC A c o 1 h

/-- What every device's context holds: row block `b` as device `b` computes it. -/
def ctxC : Vec F S512x256 .bf16 :=
  fun i => hdC A (rb i) (ch i) (ix2 (n0 := 64) (n1 := 64) ⟨(i 0).val % 64, Nat.mod_lt _ (by decide)⟩ ⟨(i 1).val % 64, Nat.mod_lt _ (by decide)⟩)

/-- What device `c` returns. -/
def outC (c : Dev nD) : Vec F S2x256x512 .bf16 := k0_pay1 (ctxC A) (A.wo c)

/-! ## Reads through the contents -/

/-- A box of the flat buffer is the head's box of the wide one, laid out as the kernel does. -/
theorem read_hd (K : Vec F S512x4x64 .bf16) (b : Fin 8) (h : Fin 4) :
    (fun i => flat K ((boxR b h).emb i) : Vec F S64x64 .bf16) = k0_pay2 fun i => K ((hdR b h).emb i) := by
  funext i
  unfold k0_pay2
  pointwise
  have h0 : (i 0).val < 64 := (i 0).isLt
  have h1 : (i 1).val < 64 := (i 1).isLt
  refine congrArg K (funext fun a => Fin.ext ?_)
  fin_cases a
  · show 64 * b.val + 1 * (i 0).val = 64 * b.val + 1 * (i 0).val
    rfl
  · show (64 * h.val + 1 * (i 1).val) / 64 = h.val + 1 * 0
    omega
  · show (64 * h.val + 1 * (i 1).val) % 64 = 0 + 1 * (i 1).val
    omega

/-- The own block's rows, kept in the landing buffer. -/
theorem read_keep (c : Dev nD) (t : Fin 2) :
    (fun i => kvC A c ((blkR c t).emb i) : Vec F S1x1x64x256 .bf16) = k0_pay11 fun i => flat (A.kv c t) ((rowR c).emb i) := by
  funext i
  unfold k0_pay11
  pointwise
  have h0 : (i 0).val < 1 := (i 0).isLt
  have h1 : (i 1).val < 1 := (i 1).isLt
  have e0 : (blkR c t).emb i 0 = c := Fin.ext (show c.val + 1 * (i 0).val = c.val by omega)
  have e1 : (blkR c t).emb i 1 = t := Fin.ext (show t.val + 1 * (i 1).val = t.val by omega)
  unfold kvC
  rw [e0, e1]
  refine congrArg (flat (A.kv c t)) (funext fun a => Fin.ext ?_)
  fin_cases a
  · show 64 * c.val + (0 + 1 * (i 2).val) = 64 * c.val + 1 * (i 2).val
    omega
  · rfl

/-- Origin `o`'s rows of block `c`, landed on device `c`. -/
theorem read_land (c o : Dev nD) (t : Fin 2) (hn : S64x256.numel = S1x1x64x256.numel) :
    (fun i => kvC A c ((blkR o t).emb (Shape.reshapeEquiv hn i)) : Vec F S64x256 .bf16)
      = fun i => flat (A.kv o t) ((rowR c).emb i) := by
  funext i
  have hi : Shape.reshapeEquiv hn i = ix4 (n0 := 1) (n1 := 1) (n2 := 64) (n3 := 256) 0 0 (i 0) (i 1) := by pointwise
  rw [hi]
  have e0 : (blkR o t).emb (ix4 (n0 := 1) (n1 := 1) (n2 := 64) (n3 := 256) 0 0 (i 0) (i 1)) 0 = o :=
    Fin.ext (show o.val + 1 * 0 = o.val by omega)
  have e1 : (blkR o t).emb (ix4 (n0 := 1) (n1 := 1) (n2 := 64) (n3 := 256) 0 0 (i 0) (i 1)) 1 = t :=
    Fin.ext (show t.val + 1 * 0 = t.val by omega)
  unfold kvC
  rw [e0, e1]
  refine congrArg (flat (A.kv o t)) (funext fun a => Fin.ext ?_)
  fin_cases a
  · show 64 * c.val + (0 + 1 * (i 0).val) = 64 * c.val + 1 * (i 0).val
    omega
  · rfl

/-- The scores of one head against one block. -/
theorem read_so (c o : Dev nD) (h : Fin 4) :
    (fun i => scC A c ((soR h o).emb i) : Vec F S1x1x64x64 .f32) = scPay h (qC A c) (khC A c o 0 h) := by
  funext i
  have h0 : (i 0).val < 1 := (i 0).isLt
  have h1 : (i 1).val < 1 := (i 1).isLt
  have e0 : (soR h o).emb i 0 = h := Fin.ext (show h.val + 1 * (i 0).val = h.val by omega)
  have e1 : (soR h o).emb i 1 = o := Fin.ext (show o.val + 1 * (i 1).val = o.val by omega)
  unfold scC
  rw [e0, e1]
  refine congrArg _ (funext fun a => Fin.ext ?_)
  fin_cases a
  · show 0 = (i 0).val
    omega
  · show 0 = (i 1).val
    omega
  · show 0 + 1 * (i 2).val = (i 2).val
    omega
  · show 0 + 1 * (i 3).val = (i 3).val
    omega

/-- One head's columns of one block of the context. -/
theorem read_ctx (b : Dev nD) (h : Fin 4) :
    (fun i => ctxC A ((boxR b h).emb i) : Vec F S64x64 .bf16) = hdC A b h := by
  funext i
  have h0 : (i 0).val < 64 := (i 0).isLt
  have h1 : (i 1).val < 64 := (i 1).isLt
  have e0 : rb ((boxR b h).emb i) = b := Fin.ext (show (64 * b.val + 1 * (i 0).val) / 64 = b.val by omega)
  have e1 : ch ((boxR b h).emb i) = h := Fin.ext (show (64 * h.val + 1 * (i 1).val) / 64 = h.val by omega)
  unfold ctxC
  rw [e0, e1]
  refine congrArg _ (funext fun a => Fin.ext ?_)
  fin_cases a
  · show (64 * b.val + 1 * (i 0).val) % 64 = (i 0).val
    omega
  · show (64 * h.val + 1 * (i 1).val) % 64 = (i 1).val
    omega

/-! ## The pieces held -/

/-- Where device `d`'s buffer behind a memref lies. -/
abbrev at_ {s : Shape} {e : EltTy} (m : Memref sig .tc .vmem s e) (d : Dev nD) : Loc nD τ sig := m.view.loc (Dev.tc (τ := τ) d)

end Cert.KernelIdeal.P

end
-- ==== Proof.Moves.lean ====
/-
  The steps of the body that touch the device's own buffers: a read leaves its buffer, a write onto a whole
  piece leaves the piece at any contents that read as the written values there.
-/
module

public import proofs.«01_k».proof.Proof.Places

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- A program of device `d`, run to a postcondition. -/
abbrev WP (d : Dev nD) {α : Type} (p : Pg F α) (Q : α → sProp (MM F)) : sProp (MM F) :=
  wp frame (wpE (defs₀ (F := F)) 𝒱₀ (Dev.tc (τ := τ) d) none) Set.univ p Q

/-- A program followed by another. -/
theorem wp_seq (d : Dev nD) {α β : Type} (p : Pg F α) (k : α → Pg F β) (Q : β → sProp (MM F)) :
    WP d p (fun a => WP d (k a) Q) ⊢ WP d (p >>= k) Q := by
  unfold WP
  rw [wp_bind]

section
variable {s : Shape} {e : EltTy} (m : Memref sig .tc .vmem s e) (d : Dev nD) (r : Rect s)

/-- A read. -/
theorem wp_ld {hl : m.view.LoadsAt r.toLoadRect} {S : Finset (Idx ((m.access r).loc (Dev.tc (τ := τ) d)))} (hS : (m.access r).set ⊆ S)
    {q : PosShare TreeShare} {f : Buf (Elt F) ((m.access r).loc (Dev.tc (τ := τ) d))} (Q : Vec F r.shape e → sProp (MM F)) :
    ((m.access r).loc (Dev.tc (τ := τ) d) ↦[S]{q} f)
      ∗ (((m.access r).loc (Dev.tc (τ := τ) d) ↦[S]{q} f) -∗ Q ((m.access r).read (Elt F) f))
      ⊢ WP d (Prog.lift (.load m r.toLoadRect hl)) Q := by
  iintro ⟨H, Hk⟩
  iapply (wp_load_rect (defs := defs₀ (F := F)) 𝒱₀ (Dev.tc (τ := τ) d) none Set.univ hS) $$ H
  iintro H
  rw [wp_ret]
  imodintro
  iapply Hk
  iexact H

/-- A write onto a whole piece. -/
theorem wp_st {w : Vec F r.shape e} {hx : (m.access r).Stores Finset.univ} {hm : Finset.univ = Finset.univ ∨ ∀ a, r.stride a = 1}
    {f g : Buf (Elt F) ((m.access r).loc (Dev.tc (τ := τ) d))} (hg : (m.access r).read (Elt F) g = w) (Q : PUnit → sProp (MM F)) :
    ((m.access r).loc (Dev.tc (τ := τ) d) ↦[(m.access r).set]{fullShare} f)
      ∗ (((m.access r).loc (Dev.tc (τ := τ) d) ↦[(m.access r).set]{fullShare} g) -∗ Q ⟨⟩)
      ⊢ WP d (Prog.lift (.store m r w Finset.univ hx hm)) Q := by
  have he : ((m.access r).loc (Dev.tc (τ := τ) d) ↦[(m.access r).set]{fullShare} (m.access r).write (Elt F) f w Finset.univ : sProp (MM F))
      = ((m.access r).loc (Dev.tc (τ := τ) d) ↦[(m.access r).set]{fullShare} g) := pointsTo_congr (write_agrees (m.access r) f g w hg)
  rw [← he]
  iintro ⟨H, Hk⟩
  iapply (wp_store (defs := defs₀ (F := F)) 𝒱₀ (Dev.tc (τ := τ) d) none Set.univ (by rw [View.setOn_univ])) $$ H
  iintro H
  rw [wp_ret]
  imodintro
  iapply Hk
  iexact H
end

/-- One head of one block copied: the piece of the flat buffer at any contents that read as the wide buffer's head. -/
theorem wp_head (d : Dev nD) (src : Memref sig .tc .vmem S512x4x64 .bf16) (dst : Memref sig .tc .vmem S512x256 .bf16) (hd : dst.IsWhole)
    (oS : Fin 3 → ℕ) (iS : ∀ a, oS a + S64x1x64.size a ≤ S512x4x64.size a)
    (oD : Fin 2 → ℕ) (iD : ∀ a, oD a + S64x64.size a ≤ S512x256.size a)
    (pk : (Rect.unit (s := S512x256) oD S64x64.size iD).PackedRows (EltTy.packing .bf16))
    {S : Finset (Idx (at_ src d))} (hS : (src.access (Rect.unit (s := S512x4x64) oS S64x1x64.size iS)).set ⊆ S)
    {T : Finset (Idx (at_ dst d))} (hT : (dst.access (Rect.unit (s := S512x256) oD S64x64.size iD)).set = T)
    {q : PosShare TreeShare} {fs : Buf (Elt F) (at_ src d)} {f g : Buf (Elt F) (at_ dst d)}
    (hg : (dst.access (Rect.unit (s := S512x256) oD S64x64.size iD)).read (Elt F) g
      = k0_pay2 ((src.access (Rect.unit (s := S512x4x64) oS S64x1x64.size iS)).read (Elt F) fs)) (Q : PUnit → sProp (MM F)) :
    (at_ src d ↦[S]{q} fs) ∗ (at_ dst d ↦[T]{fullShare} f)
      ∗ ((at_ src d ↦[S]{q} fs) ∗ (at_ dst d ↦[T]{fullShare} g) -∗ Q ⟨⟩)
      ⊢ WP d (head src dst hd oS iS oD iD pk) Q := by
  subst hT
  unfold head
  iintro ⟨Hs, Hd, Hk⟩
  iapply (wp_seq d)
  iapply (wp_ld src d _ hS)
  isplitl [Hs]; · iexact Hs
  iintro Hs
  iapply (wp_seq d)
  iapply (wp_ld dst d _ subset_rfl)
  isplitl [Hd]; · iexact Hd
  iintro Hd
  iapply (wp_st dst d _ hg)
  isplitl [Hd]; · iexact Hd
  iintro Hd
  iapply Hk
  isplitl [Hs]; · iexact Hs
  iexact Hd

/-- The device's own block kept in the landing buffer. -/
theorem wp_keep (d : Dev nD) (src : Memref sig .tc .vmem S512x256 .bf16)
    (o : Fin 4 → ℕ) (i : ∀ a, o a + S1x1x64x256.size a ≤ S8x2x64x256.size a)
    (pk : (Rect.unit (s := S8x2x64x256) o S1x1x64x256.size i).PackedRows (EltTy.packing .bf16))
    {S : Finset (Idx (at_ src d))} (hS : (src.access (Rect.unit (s := S512x256) (k0_off9 d) S64x256.size (k0_off9_inb d))).set ⊆ S)
    {T : Finset (Idx (at_ X8 d))} (hT : (X8.access (Rect.unit (s := S8x2x64x256) o S1x1x64x256.size i)).set = T)
    {q : PosShare TreeShare} {fs : Buf (Elt F) (at_ src d)} {f g : Buf (Elt F) (at_ X8 d)}
    (hg : (X8.access (Rect.unit (s := S8x2x64x256) o S1x1x64x256.size i)).read (Elt F) g
      = k0_pay11 ((src.access (Rect.unit (s := S512x256) (k0_off9 d) S64x256.size (k0_off9_inb d))).read (Elt F) fs)) (Q : PUnit → sProp (MM F)) :
    (at_ src d ↦[S]{q} fs) ∗ (at_ X8 d ↦[T]{fullShare} f)
      ∗ ((at_ src d ↦[S]{q} fs) ∗ (at_ X8 d ↦[T]{fullShare} g) -∗ Q ⟨⟩)
      ⊢ WP d (keep src d o i pk) Q := by
  subst hT
  unfold keep
  iintro ⟨Hs, Hd, Hk⟩
  iapply (wp_seq d)
  iapply (wp_ld src d _ hS)
  isplitl [Hs]; · iexact Hs
  iintro Hs
  iapply (wp_seq d)
  iapply (wp_ld X8 d _ subset_rfl)
  isplitl [Hd]; · iexact Hd
  iintro Hd
  iapply (wp_st X8 d _ hg)
  isplitl [Hd]; · iexact Hd
  iintro Hd
  iapply Hk
  isplitl [Hs]; · iexact Hs
  iexact Hd

/-- One head's scores against one block. -/
theorem wp_score (d : Dev nD) (q : FVec F S64x256 .bf16) (pay : FVec F S64x256 .bf16 → Vec F S1x1x64x64 .bf16 → FVec F S1x1x64x64 .f32)
    (oK : Fin 4 → ℕ) (iK : ∀ a, oK a + S1x1x64x64.size a ≤ S8x2x64x256.size a)
    (oS : Fin 4 → ℕ) (iS : ∀ a, oS a + S1x1x64x64.size a ≤ S4x8x64x64.size a)
    {S : Finset (Idx (at_ X8 d))} (hS : (X8.access (Rect.unit (s := S8x2x64x256) oK S1x1x64x64.size iK)).set ⊆ S)
    {T : Finset (Idx (at_ X9 d))} (hT : (X9.access (Rect.unit (s := S4x8x64x64) oS S1x1x64x64.size iS)).set = T)
    {fs : Buf (Elt F) (at_ X8 d)} {f g : Buf (Elt F) (at_ X9 d)}
    (hg : (X9.access (Rect.unit (s := S4x8x64x64) oS S1x1x64x64.size iS)).read (Elt F) g
      = pay q ((X8.access (Rect.unit (s := S8x2x64x256) oK S1x1x64x64.size iK)).read (Elt F) fs)) (Q : PUnit → sProp (MM F)) :
    (at_ X8 d ↦[S]{fullShare} fs) ∗ (at_ X9 d ↦[T]{fullShare} f)
      ∗ ((at_ X8 d ↦[S]{fullShare} fs) ∗ (at_ X9 d ↦[T]{fullShare} g) -∗ Q ⟨⟩)
      ⊢ WP d (score q pay oK iK oS iS) Q := by
  subst hT
  unfold score
  iintro ⟨Hs, Hd, Hk⟩
  iapply (wp_seq d)
  iapply (wp_ld X8 d _ hS)
  isplitl [Hs]; · iexact Hs
  iintro Hs
  iapply (wp_seq d)
  iapply (wp_ld X9 d _ subset_rfl)
  isplitl [Hd]; · iexact Hd
  iintro Hd
  iapply (wp_st X9 d _ hg)
  isplitl [Hd]; · iexact Hd
  iintro Hd
  iapply Hk
  isplitl [Hs]; · iexact Hs
  iexact Hd

/-- One head of the device's context rows. -/
theorem wp_attn (d : Dev nD) (h : Fin 4) (oD : Fin 2 → ℕ) (iD : ∀ a, oD a + S64x64.size a ≤ S512x256.size a)
    (pk : (Rect.unit (s := S512x256) oD S64x64.size iD).PackedRows (EltTy.packing .bf16))
    {T : Finset (Idx (at_ X10 d))} (hT : (X10.access (Rect.unit (s := S512x256) oD S64x64.size iD)).set = T)
    {fk : Buf (Elt F) (at_ X8 d)} {fs : Buf (Elt F) (at_ X9 d)} {f g : Buf (Elt F) (at_ X10 d)}
    (hg : (X10.access (Rect.unit (s := S512x256) oD S64x64.size iD)).read (Elt F) g
      = ctxHead ((X9.access (shR h)).read (Elt F) fs) fun o => (X8.access (khR o 1 h)).read (Elt F) fk) (Q : PUnit → sProp (MM F)) :
    (at_ X8 d ↦[Finset.univ]{fullShare} fk) ∗ (at_ X9 d ↦[Finset.univ]{fullShare} fs) ∗ (at_ X10 d ↦[T]{fullShare} f)
      ∗ ((at_ X8 d ↦[Finset.univ]{fullShare} fk) ∗ (at_ X9 d ↦[Finset.univ]{fullShare} fs) ∗ (at_ X10 d ↦[T]{fullShare} g) -∗ Q ⟨⟩)
      ⊢ WP d (attn h oD iD pk) Q := by
  subst hT
  unfold attn ldV
  iintro ⟨Hk8, Hs, Hd, Hk⟩
  iapply (wp_seq d)
  iapply (wp_ld X9 d _ (Finset.subset_univ _))
  isplitl [Hs]; · iexact Hs
  iintro Hs
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X8 d _ (Finset.subset_univ _))
  isplitl [Hk8]; · iexact Hk8
  iintro Hk8
  iapply (wp_seq d)
  iapply (wp_ld X10 d _ subset_rfl)
  isplitl [Hd]; · iexact Hd
  iintro Hd
  iapply (wp_st X10 d _ (hg.trans (congrArg _ (funext fun o => by fin_cases o <;> rfl))))
  isplitl [Hd]; · iexact Hd
  iintro Hd
  iapply Hk
  isplitl [Hk8]; · iexact Hk8
  isplitl [Hs]; · iexact Hs
  iexact Hd

/-! ## Seven steps -/

/-- Seven steps run one after another: each turns its own resources, and what all pass along. -/
theorem wp_each (d : Dev nD) (f : Fin 7 → Pg F PUnit) (B C : Fin 7 → sProp (MM F)) (R : ℕ → sProp (MM F))
    (h : ∀ r (Q : PUnit → sProp (MM F)), B r ∗ R r.val ∗ (C r ∗ R (r.val + 1) -∗ Q ⟨⟩) ⊢ WP d (f r) Q) (Q : PUnit → sProp (MM F)) :
    bigSep Finset.univ B ∗ R 0 ∗ (bigSep Finset.univ C ∗ R 7 -∗ Q ⟨⟩) ⊢ WP d (each f) Q := by
  have e : ∀ B : Fin 7 → sProp (MM F), bigSep Finset.univ B = iprop(B 0 ∗ B 1 ∗ B 2 ∗ B 3 ∗ B 4 ∗ B 5 ∗ B 6) := by
    intro B
    rw [bigSep_univ_eq_bigSepL [0, 1, 2, 3, 4, 5, 6] (by decide) (by decide)]
    rfl
  have h0 : ∀ Q : PUnit → sProp (MM F), B 0 ∗ R 0 ∗ (C 0 ∗ R 1 -∗ Q ⟨⟩) ⊢ WP d (f 0) Q := h 0
  have h1 : ∀ Q : PUnit → sProp (MM F), B 1 ∗ R 1 ∗ (C 1 ∗ R 2 -∗ Q ⟨⟩) ⊢ WP d (f 1) Q := h 1
  have h2 : ∀ Q : PUnit → sProp (MM F), B 2 ∗ R 2 ∗ (C 2 ∗ R 3 -∗ Q ⟨⟩) ⊢ WP d (f 2) Q := h 2
  have h3 : ∀ Q : PUnit → sProp (MM F), B 3 ∗ R 3 ∗ (C 3 ∗ R 4 -∗ Q ⟨⟩) ⊢ WP d (f 3) Q := h 3
  have h4 : ∀ Q : PUnit → sProp (MM F), B 4 ∗ R 4 ∗ (C 4 ∗ R 5 -∗ Q ⟨⟩) ⊢ WP d (f 4) Q := h 4
  have h5 : ∀ Q : PUnit → sProp (MM F), B 5 ∗ R 5 ∗ (C 5 ∗ R 6 -∗ Q ⟨⟩) ⊢ WP d (f 5) Q := h 5
  have h6 : ∀ Q : PUnit → sProp (MM F), B 6 ∗ R 6 ∗ (C 6 ∗ R 7 -∗ Q ⟨⟩) ⊢ WP d (f 6) Q := h 6
  rw [e B, e C]
  unfold each
  iintro ⟨⟨B0, B1, B2, B3, B4, B5, B6⟩, HR, Hk⟩
  iapply (wp_seq d)
  iapply h0
  isplitl [B0]; · iexact B0
  isplitl [HR]; · iexact HR
  iintro ⟨B0, HR⟩
  iapply (wp_seq d)
  iapply h1
  isplitl [B1]; · iexact B1
  isplitl [HR]; · iexact HR
  iintro ⟨B1, HR⟩
  iapply (wp_seq d)
  iapply h2
  isplitl [B2]; · iexact B2
  isplitl [HR]; · iexact HR
  iintro ⟨B2, HR⟩
  iapply (wp_seq d)
  iapply h3
  isplitl [B3]; · iexact B3
  isplitl [HR]; · iexact HR
  iintro ⟨B3, HR⟩
  iapply (wp_seq d)
  iapply h4
  isplitl [B4]; · iexact B4
  isplitl [HR]; · iexact HR
  iintro ⟨B4, HR⟩
  iapply (wp_seq d)
  iapply h5
  isplitl [B5]; · iexact B5
  isplitl [HR]; · iexact HR
  iintro ⟨B5, HR⟩
  iapply h6
  isplitl [B6]; · iexact B6
  isplitl [HR]; · iexact HR
  iintro ⟨B6, HR⟩
  iapply Hk
  isplitr [HR]
  · isplitl [B0]; · iexact B0
    isplitl [B1]; · iexact B1
    isplitl [B2]; · iexact B2
    isplitl [B3]; · iexact B3
    isplitl [B4]; · iexact B4
    isplitl [B5]; · iexact B5
    iexact B6
  iexact HR

end Cert.KernelIdeal.P

end
-- ==== Proof.Protocol.lean ====
/-
  The exchange's protocol: for each semaphore cell who pays it, how much and with which resources; what each
  device owes at launch; the order of the waits.
-/
module

public import proofs.«01_k».proof.Proof.Moves

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Devices by distance -/

/-- The device `r + 1` places after `d`. -/
def peer (d : Dev nD) (r : Fin 7) : Dev nD := ⟨(d.val + r.val + 1) % 8, Nat.mod_lt _ (by decide)⟩
/-- The device `r + 1` places before `d`. -/
def orig (d : Dev nD) (r : Fin 7) : Dev nD := ⟨(d.val + 7 - r.val) % 8, Nat.mod_lt _ (by decide)⟩

/-- A device is not its own peer. -/
theorem peer_ne (d : Dev nD) (r : Fin 7) : peer d r ≠ d := by revert d r; decide
/-- A device is not its own origin. -/
theorem orig_ne (d : Dev nD) (r : Fin 7) : orig d r ≠ d := by revert d r; decide
/-- Different rounds have different peers. -/
theorem peer_inj (d : Dev nD) : Function.Injective (peer d) := by revert d; decide
/-- Different rounds have different origins. -/
theorem orig_inj (d : Dev nD) : Function.Injective (orig d) := by revert d; decide
/-- The peers are all the other devices. -/
theorem peer_image (d : Dev nD) : Finset.univ.map ⟨peer d, peer_inj d⟩ = Finset.univ.erase d := by revert d; decide
/-- The origins are all the other devices. -/
theorem orig_image (d : Dev nD) : Finset.univ.map ⟨orig d, orig_inj d⟩ = Finset.univ.erase d := by revert d; decide

/-- The other devices, by distance after. -/
theorem others_peer (d : Dev nD) (Φ : Dev nD → sProp (MM F)) :
    bigSep (Finset.univ.erase d) Φ = bigSep Finset.univ fun r => Φ (peer d r) := by
  rw [← peer_image, bigSep_map]
  rfl
/-- The other devices, by distance before. -/
theorem others_orig (d : Dev nD) (Φ : Dev nD → sProp (MM F)) :
    bigSep (Finset.univ.erase d) Φ = bigSep Finset.univ fun r => Φ (orig d r) := by
  rw [← orig_image, bigSep_map]
  rfl

/-! ## The cells -/

/-- The departure of the K (`t = 0`) or V (`t = 1`) copy number `r`. -/
def s1C (t : Fin 2) (r : Fin 7) : SemLoc sig := .dma ⟨6 + 7 * t.val + r.val, by have := t.isLt; have := r.isLt; show _ < 51; omega⟩
/-- The arrival of origin `o`'s K or V. -/
def r1C (o : Dev nD) (t : Fin 2) : SemLoc sig := .dma ⟨20 + 2 * o.val + t.val, by have := t.isLt; have : o.val < 8 := o.isLt; show _ < 51; omega⟩
/-- The departure of the context copy number `r`. -/
def s2C (r : Fin 7) : SemLoc sig := .dma ⟨36 + r.val, by have := r.isLt; show _ < 51; omega⟩
/-- The arrival of origin `o`'s context rows. -/
def r2C (o : Dev nD) : SemLoc sig := .dma ⟨43 + o.val, by have : o.val < 8 := o.isLt; show _ < 51; omega⟩
/-- The barrier. -/
abbrev barC : SemLoc sig := .reg barS

/-- What a cell is for. -/
inductive Kind
  | bar | s1 (t : Fin 2) (r : Fin 7) | r1 (o : Fin 8) (t : Fin 2) | s2 (r : Fin 7) | r2 (o : Fin 8) | other
  deriving DecidableEq

/-- A cell's use, by its number. -/
def kind : SemLoc sig → Kind
  | .reg s => if s = barS then .bar else .other
  | .dma s =>
    if s.val < 6 then .other
    else if s.val < 20 then .s1 ⟨(s.val - 6) / 7 % 2, Nat.mod_lt _ (by decide)⟩ ⟨(s.val - 6) % 7, Nat.mod_lt _ (by decide)⟩
    else if s.val < 36 then .r1 ⟨(s.val - 20) / 2 % 8, Nat.mod_lt _ (by decide)⟩ ⟨(s.val - 20) % 2, Nat.mod_lt _ (by decide)⟩
    else if s.val < 43 then .s2 ⟨(s.val - 36) % 7, Nat.mod_lt _ (by decide)⟩
    else .r2 ⟨(s.val - 43) % 8, Nat.mod_lt _ (by decide)⟩

/-- The kind of the barrier's cell. -/
theorem kind_bar : kind barC = .bar := rfl
/-- The kind of a send cell of the first exchange. -/
theorem kind_s1 (t : Fin 2) (r : Fin 7) : kind (s1C t r) = .s1 t r := by revert t r; decide
/-- The kind of a receive cell of the first exchange. -/
theorem kind_r1 (o : Fin 8) (t : Fin 2) : kind (r1C o t) = .r1 o t := by revert t o; decide
/-- The kind of a send cell of the second exchange. -/
theorem kind_s2 (r : Fin 7) : kind (s2C r) = .s2 r := by revert r; decide
/-- The kind of a receive cell of the second exchange. -/
theorem kind_r2 (o : Fin 8) : kind (r2C o) = .r2 o := by revert o; decide

/-- A cell of device `d`. -/
abbrev cell (d : Dev nD) (s : SemLoc sig) : GSem nD τ sig := (Dev.tc (τ := τ) d, s)

/-! ## The pieces the cells pass on -/

/-- The rows of block `b` of device `d`'s flat K (`t = 0`) or V buffer. -/
def pFlat (d : Dev nD) (t : Fin 2) (b : Fin 8) (f : Vec F S512x256 .bf16) : sProp (MM F) :=
  if t = 0 then iprop(at_ X6 d ↦[rowP b]{fullShare} f) else iprop(at_ X7 d ↦[rowP b]{fullShare} f)
/-- The block of origin `o` in device `d`'s landing buffer. -/
def pKv (d : Dev nD) (o : Fin 8) (t : Fin 2) (f : Vec F S8x2x64x256 .bf16) : sProp (MM F) :=
  iprop(at_ X8 d ↦[kvP o t]{fullShare} f)
/-- The rows of block `b` of device `d`'s context, at a share. -/
def pCtx (d : Dev nD) (q : PosShare TreeShare) (b : Fin 8) (f : Vec F S512x256 .bf16) : sProp (MM F) :=
  iprop(at_ X10 d ↦[rowP b]{q} f)

/-- The share of the context rows the copy number `r` reads through: halves of what is left, the last takes the rest. -/
def lend : ℕ → PosShare TreeShare → PosShare TreeShare
  | 0, q => q.left
  | n + 1, q => lend n q.right
/-- What is left after `n` loans. -/
def keepSh : ℕ → PosShare TreeShare → PosShare TreeShare
  | 0, q => q
  | n + 1, q => keepSh n q.right

/-- What a device `e` hands device `d` with its barrier signal: the places of `e` that `d` will write, and that the
    cells of `e` that `d`'s copies raise are open. -/
def barPay (e d : Dev nD) : sProp (MM F) :=
  iprop((∃ f, pKv e d 0 f) ∗ (∃ f, pKv e d 1 f) ∗ (∃ f, pCtx e fullShare d f)
    ∗ reached ER (cell e (r1C d 0)) 0 ∗ reached ER (cell e (r1C d 1)) 0 ∗ reached ER (cell e (r2C d)) 0)

variable (A : Args F)

/-- The amount every copy credits. -/
def Nc : ℕ := 1024
/-- A copy moves something. -/
theorem Nc_pos : 0 < Nc := by decide

/-- Who pays a cell. -/
def payers (d : Dev nD) : Kind → Finset (Dev nD)
  | .bar => Finset.univ.erase d
  | .s1 _ _ => {d}
  | .r1 o _ => if o = d then ∅ else {o}
  | .s2 _ => {d}
  | .r2 o => if o = d then ∅ else {o}
  | .other => ∅

/-- How much a payment is. -/
def price : Kind → ℕ
  | .bar => 1
  | _ => Nc

/-- What comes with it. -/
def pay (d e : Dev nD) : Kind → sProp (MM F)
  | .bar => barPay e d
  | .s1 t r => pFlat d t (peer d r) (flat (A.kv d t))
  | .r1 o t => pKv d o t (kvC A d)
  | .s2 r => pCtx d (lend r.val fullShare) d (ctxC A)
  | .r2 o => pCtx d fullShare o (ctxC A)
  | .other => iprop(emp)

/-- The schedule: one round of every cell. -/
def Rd : Rounds.Schedule (GSem nD τ sig) (Dev nD) (MM F) where
  duties g r := if r = 0 ∧ g.1.2 = .tc then payers g.1.1 (kind g.2) else ∅
  unitless _ := False
  amount g _ _ := price (kind g.2)
  payload g _ e := pay A g.1.1 e (kind g.2)
  amount_pos g _ _ _ := by
    cases h : kind g.2 <;> simp [price, Nc]

/-- What a cell hands over may be kept in an invariant. -/
instance Rd_storable (g : GSem nD τ sig) (r : ℕ) (e : Dev nD) :
    BI.Storable (upEmb : UEmb _ (MM F)) ((Rd A).payload g r e) := by
  show BI.Storable upEmb (pay A g.1.1 e (kind g.2))
  unfold pay barPay pFlat pKv pCtx
  (repeat' split) <;> infer_instance

/-- Who pays a cell in its only round. -/
theorem duties_zero (d : Dev nD) (s : SemLoc sig) : (Rd A).duties (cell d s) 0 = payers d (kind s) := by dsimp only [Rd]; exact if_pos ⟨rfl, rfl⟩
/-- No cell is paid after its only round. -/
theorem duties_later (g : GSem nD τ sig) (r : ℕ) (h : 1 ≤ r) : (Rd A).duties g r = ∅ := by dsimp only [Rd]; exact if_neg fun h' => by omega
/-- Only a TensorCore's cells are paid. -/
theorem duties_other (g : GSem nD τ sig) (h : g.1.2 ≠ .tc) (r : ℕ) : (Rd A).duties g r = ∅ := by dsimp only [Rd]; exact if_neg fun h' => h h'.2

/-- The barrier expects seven signals. -/
theorem expect_bar (d : Dev nD) : (Rd A).expect (cell d barC) 0 = 7 := by
  unfold Schedule.expect Schedule.amountOf
  rw [duties_zero, kind_bar]
  show ∑ _x ∈ Finset.univ.erase d, price (kind barC) = 7
  rw [kind_bar, Finset.sum_const, Finset.card_erase_of_mem (Finset.mem_univ d), Finset.card_univ]
  rfl

/-- A cell with one payer expects one payment. -/
theorem expect_one (d e : Dev nD) (s : SemLoc sig) (h : payers d (kind s) = {e}) (hp : price (kind s) = Nc) :
    (Rd A).expect (cell d s) 0 = Nc := by
  unfold Schedule.expect Schedule.amountOf
  rw [duties_zero, h, Finset.sum_singleton]
  exact hp

/-- What the whole round of a cell with one payer brings. -/
theorem rest_one (d e : Dev nD) (s : SemLoc sig) (h : payers d (kind s) = {e}) :
    bigSep ((Rd A).duties (cell d s) 0 \ ∅) (fun x => (Rd A).payload (cell d s) 0 x) = pay A d e (kind s) := by
  rw [Finset.sdiff_empty, duties_zero, h, bigSep_singleton]
  rfl

/-- What the barrier's round brings: the seven peers' places. -/
theorem rest_bar (d : Dev nD) :
    bigSep ((Rd A).duties (cell d barC) 0 \ ∅) (fun x => (Rd A).payload (cell d barC) 0 x)
      = bigSep Finset.univ fun r => barPay (peer d r) d := by
  rw [Finset.sdiff_empty, duties_zero, kind_bar, payers, others_peer]
  rfl

/-! ## What a device owes -/

/-- The terms of a sum over the seven steps from step `k` on. -/
def from_ (g : Fin 7 → CellTallies nD τ sig Unit) (k : ℕ) : CellTallies nD τ sig Unit :=
  ∑ s ∈ Finset.univ.filter (fun s : Fin 7 => k ≤ s.val), g s

/-- What is owed from round `r` on is round `r` and the rest. -/
theorem from_step (g : Fin 7 → CellTallies nD τ sig Unit) (r : Fin 7) : from_ g r.val = from_ g (r.val + 1) + g r := by
  unfold from_
  have e : Finset.univ.filter (fun s : Fin 7 => r.val ≤ s.val) = insert r (Finset.univ.filter fun s : Fin 7 => r.val + 1 ≤ s.val) := by
    ext s
    simp only [Finset.mem_filter, Finset.mem_univ, true_and, Finset.mem_insert, Fin.ext_iff]
    omega
  rw [e, Finset.sum_insert (by simp), add_comm]
/-- What is owed from the start is the whole. -/
theorem from_zero (g : Fin 7 → CellTallies nD τ sig Unit) : from_ g 0 = ∑ s, g s := by
  unfold from_
  refine Finset.sum_congr ?_ fun _ _ => rfl
  ext s
  simp
/-- After the seventh round nothing is owed. -/
theorem from_seven (g : Fin 7 → CellTallies nD τ sig Unit) : from_ g 7 = 0 := by
  unfold from_
  rw [Finset.filter_eq_empty_iff.mpr fun s _ => by have := s.isLt; omega, Finset.sum_empty]

/-- The signal owed to peer `r`. -/
def gB (d : Dev nD) (r : Fin 7) : CellTallies nD τ sig Unit := tallyAt (cell (peer d r) barC) () 1
/-- The K or V copy owed to peer `r`. -/
def gK (d : Dev nD) (t : Fin 2) (r : Fin 7) : CellTallies nD τ sig Unit := tallyAt (cell (peer d r) (r1C d t)) () Nc
/-- The context copy owed to peer `r`. -/
def gC (d : Dev nD) (r : Fin 7) : CellTallies nD τ sig Unit := tallyAt (cell (peer d r) (r2C d)) () Nc

/-- Owed before the step of each loop, in the order of the loops. -/
def oB (d : Dev nD) (k : ℕ) : CellTallies nD τ sig Unit := from_ (gC d) 0 + from_ (gK d 1) 0 + from_ (gK d 0) 0 + from_ (gB d) k
/-- What a device owes with `k` copies of keys started. -/
def oK (d : Dev nD) (k : ℕ) : CellTallies nD τ sig Unit := from_ (gC d) 0 + from_ (gK d 1) 0 + from_ (gK d 0) k
/-- What a device owes with all the keys and `k` copies of values started. -/
def oV (d : Dev nD) (k : ℕ) : CellTallies nD τ sig Unit := from_ (gC d) 0 + from_ (gK d 1) k
/-- What a device owes with `k` copies of its context started. -/
def oC (d : Dev nD) (k : ℕ) : CellTallies nD τ sig Unit := from_ (gC d) k

/-- One signal fewer is owed. -/
theorem oB_step (d : Dev nD) (r : Fin 7) : oB d r.val = oB d (r.val + 1) + gB d r := by
  unfold oB; rw [from_step (gB d) r]; simp only [add_assoc]
/-- One copy of keys fewer is owed. -/
theorem oK_step (d : Dev nD) (r : Fin 7) : oK d r.val = oK d (r.val + 1) + gK d 0 r := by
  unfold oK; rw [from_step (gK d 0) r]; simp only [add_assoc]
/-- One copy of values fewer is owed. -/
theorem oV_step (d : Dev nD) (r : Fin 7) : oV d r.val = oV d (r.val + 1) + gK d 1 r := by
  unfold oV; rw [from_step (gK d 1) r, add_assoc]
/-- One copy of context fewer is owed. -/
theorem oC_step (d : Dev nD) (r : Fin 7) : oC d r.val = oC d (r.val + 1) + gC d r := by
  unfold oC; rw [from_step (gC d) r]
/-- With every signal sent, the copies are owed. -/
theorem oB_seven (d : Dev nD) : oB d 7 = oK d 0 := by unfold oB oK; rw [from_seven, add_zero]
/-- With the keys sent, the values and the context are owed. -/
theorem oK_seven (d : Dev nD) : oK d 7 = oV d 0 := by unfold oK oV; rw [from_seven, add_zero]
/-- With the values sent, the context is owed. -/
theorem oV_seven (d : Dev nD) : oV d 7 = oC d 0 := by unfold oV oC; rw [from_seven, add_zero]
/-- With the context sent, nothing is owed. -/
theorem oC_seven (d : Dev nD) : oC d 7 = 0 := from_seven _

/-- What a device owes at launch. -/
abbrev O₀ (d : Dev nD) : CellTallies nD τ sig Unit := oB d 0

/-! ## The levels -/

/-- Every cell of a device's core has one index. -/
def L (g : GSem nD τ sig) : Finset Unit := if g.1.2 = .tc then {()} else ∅
/-- The order of the waits. -/
def rank : Kind → ℕ
  | .bar => 1
  | .r1 _ _ => 2
  | .r2 _ => 3
  | _ => 0
/-- A cell's level: its place in the order of waiting. -/
def lv (g : GSem nD τ sig) (_ : Unit) : ℕ := rank (kind g.2)

/-- A cell of any other core has no obligation. -/
theorem L_of_ne (g : GSem nD τ sig) (h : g.1.2 ≠ .tc) : L g = ∅ := if_neg h
/-- Every cell of a TensorCore has one kind of obligation. -/
theorem L_cell (d : Dev nD) (s : SemLoc sig) : L (cell d s) = {()} := if_pos rfl

/-- All that is owed lies on cells of cores at levels above `k`. -/
def Above (k : ℕ) (O : CellTallies nD τ sig Unit) : Prop := ∀ g u, 0 < O g u → g.1.2 = .tc ∧ k < lv g u

/-- Obligations above a level, added. -/
theorem Above.add {k : ℕ} {O O' : CellTallies nD τ sig Unit} (h : Above k O) (h' : Above k O') : Above k (O + O') := by
  intro g u hg
  rcases Nat.eq_zero_or_pos (O g u) with h0 | h0
  · refine h' g u ?_
    have e : (O + O') g u = O g u + O' g u := rfl
    omega
  · exact h g u h0

/-- An obligation of one cell above a level. -/
theorem Above.at {k : ℕ} (d : Dev nD) (s : SemLoc sig) (n : ℕ) (h : k < rank (kind s)) : Above k (tallyAt (cell d s) () n) := by
  intro g u hg
  rw [tallyAt_apply] at hg
  by_cases e : g = cell d s ∧ u = ()
  · rw [e.1]
    exact ⟨rfl, h⟩
  · rw [if_neg e] at hg
    exact absurd hg (Nat.lt_irrefl 0)

/-- Obligations of the remaining rounds above a level. -/
theorem Above.from_ {k : ℕ} {g : Fin 7 → CellTallies nD τ sig Unit} (h : ∀ r, Above k (g r)) (j : ℕ) : Above k (from_ g j) := by
  unfold P.from_
  refine Finset.sum_induction _ (Above k) (fun _ _ => Above.add) ?_ fun r _ => h r
  intro g u hg
  exact absurd hg (Nat.lt_irrefl 0)

/-- The copies of the first exchange are owed above the barrier. -/
theorem above_gK (d : Dev nD) (t : Fin 2) (r : Fin 7) : Above 1 (gK d t r) := Above.at _ _ _ (by rw [kind_r1]; exact Nat.lt_succ_self 1)
/-- The copies of the second exchange are owed above the first. -/
theorem above_gC (d : Dev nD) (r : Fin 7) : Above 2 (gC d r) := Above.at _ _ _ (by rw [kind_r2]; exact Nat.lt_succ_self 2)
/-- Above a level is above every lower one. -/
theorem Above.mono {j k : ℕ} {O : CellTallies nD τ sig Unit} (h : Above k O) (hj : j ≤ k) : Above j O :=
  fun g u hg => ⟨(h g u hg).1, lt_of_le_of_lt hj (h g u hg).2⟩

/-- The barrier's wait, owing every copy. -/
theorem above_bar (d : Dev nD) : Above 1 (oK d 0) :=
  ((Above.from_ (fun r => (above_gC d r).mono (by decide)) 0).add (Above.from_ (above_gK d 1) 0)).add (Above.from_ (above_gK d 0) 0)
/-- The waits for K and V, owing the context copies. -/
theorem above_kv (d : Dev nD) : Above 2 (oC d 0) := Above.from_ (above_gC d) 0

/-- A wait below everything owed. -/
theorem mayWait (d : Dev nD) (s : SemLoc sig) (O : CellTallies nD τ sig Unit) (h : Above (rank (kind s)) O) :
    (levAts L lv : sProp (MM F)) ⊢ MayWait (Dev.tc (τ := τ) d) s () O :=
  MayOwe.of_cut (L := L) (lev := lv) (rank (kind s)) (fun p hp => by rw [Finset.mem_singleton.mp hp, L_cell]; exact Finset.mem_singleton_self _)
    (fun g u hg => by unfold L; rw [if_pos (h g u hg).1]; exact Finset.mem_singleton_self _)
    (fun p hp => by rw [Finset.mem_singleton.mp hp]; rfl)
    (fun g u hg => (h g u hg).2)

end Cert.KernelIdeal.P

end
-- ==== Proof.Talk.lean ====
/-
  The steps of the body that talk to the other devices: a signal, a copy, a wait, each as it moves the
  protocol's tokens.
-/
module

public import proofs.«01_k».proof.Proof.Protocol

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-! ## The invariants -/

/-- The kernel's own semaphores: the transfer cells past the staging's. -/
def osem (k : Fin 45) : SemLoc sig := .dma ⟨6 + k.val, by have := k.isLt; show _ < 51; omega⟩

/-- Every device's cells obey the schedule. -/
def Inv (K : GSem nD τ sig → ℕ) : sProp (MM F) :=
  iprop((bigSep Finset.univ fun d : Dev nD => cellInv ER (Rd A) (K (cell d barC)) (cell d barC))
    ∗ bigSep Finset.univ fun d : Dev nD => bigSep Finset.univ fun k : Fin 45 => cellInv ER (Rd A) (K (cell d (osem k))) (cell d (osem k)))

/-- The invariants may be used again and again. -/
instance Inv_persistent (K : GSem nD τ sig → ℕ) : BI.Persistent (Inv A K) := by unfold Inv; infer_instance

/-- The invariant of a barrier's cell. -/
theorem inv_bar (K : GSem nD τ sig → ℕ) (d : Dev nD) : Inv A K ⊢ cellInv ER (Rd A) (K (cell d barC)) (cell d barC) := by
  unfold Inv
  exact sep_elim_left.trans (bigSep_elim (Finset.mem_univ d))
/-- The invariant of a copy's cell, by its number. -/
theorem inv_sem (K : GSem nD τ sig → ℕ) (d : Dev nD) (k : Fin 45) :
    Inv A K ⊢ cellInv ER (Rd A) (K (cell d (osem k))) (cell d (osem k)) := by
  unfold Inv
  exact sep_elim_right.trans ((bigSep_elim (Finset.mem_univ d)).trans (bigSep_elim (Finset.mem_univ k)))
/-- The invariant of a copy's cell. -/
theorem inv_of (K : GSem nD τ sig → ℕ) (d : Dev nD) (s : SemLoc sig) (h : ∃ k, s = osem k) :
    Inv A K ⊢ cellInv ER (Rd A) (K (cell d s)) (cell d s) := by
  obtain ⟨k, rfl⟩ := h
  exact inv_sem A K d k

/-- A send cell of the first exchange is one of the numbered cells. -/
theorem osem_s1 (t : Fin 2) (r : Fin 7) : ∃ k, s1C t r = osem k :=
  ⟨⟨7 * t.val + r.val, by omega⟩, congrArg SemLoc.dma (Fin.ext (show 6 + 7 * t.val + r.val = 6 + (7 * t.val + r.val) by omega))⟩
/-- A receive cell of the first exchange is one of the numbered cells. -/
theorem osem_r1 (o : Fin 8) (t : Fin 2) : ∃ k, r1C o t = osem k :=
  ⟨⟨14 + 2 * o.val + t.val, by omega⟩, congrArg SemLoc.dma (Fin.ext (show 20 + 2 * o.val + t.val = 6 + (14 + 2 * o.val + t.val) by omega))⟩
/-- A send cell of the second exchange is one of the numbered cells. -/
theorem osem_s2 (r : Fin 7) : ∃ k, s2C r = osem k :=
  ⟨⟨30 + r.val, by omega⟩, congrArg SemLoc.dma (Fin.ext (show 36 + r.val = 6 + (30 + r.val) by omega))⟩
/-- A receive cell of the second exchange is one of the numbered cells. -/
theorem osem_r2 (o : Fin 8) : ∃ k, r2C o = osem k :=
  ⟨⟨37 + o.val, by omega⟩, congrArg SemLoc.dma (Fin.ext (show 43 + o.val = 6 + (37 + o.val) by omega))⟩

/-- What a device owes, whatever it has waited for. -/
def Ow (d : Dev nD) (O : CellTallies nD τ sig Unit) : sProp (MM F) := iprop(∃ W, owes (Dev.tc (τ := τ) d) O W)

/-! ## The program's cells and devices -/

/-- A signal goes to the round's peer. -/
theorem sigDev_eq (d : Dev nD) (r : Fin 7) : sigDev d r = peer d r := by
  fin_cases r
  · exact Fin.ext (k0_dev1_eq d)
  · exact Fin.ext (k0_dev2_eq d)
  · exact Fin.ext (k0_dev3_eq d)
  · exact Fin.ext (k0_dev4_eq d)
  · exact Fin.ext (k0_dev5_eq d)
  · exact Fin.ext (k0_dev6_eq d)
  · exact Fin.ext (k0_dev7_eq d)
/-- A copy of keys goes to the round's peer. -/
theorem kDev_eq (d : Dev nD) (r : Fin 7) : kDev d r = peer d r := by
  fin_cases r
  · exact Fin.ext (k0_dev8_eq d)
  · exact Fin.ext (k0_dev9_eq d)
  · exact Fin.ext (k0_dev10_eq d)
  · exact Fin.ext (k0_dev11_eq d)
  · exact Fin.ext (k0_dev12_eq d)
  · exact Fin.ext (k0_dev13_eq d)
  · exact Fin.ext (k0_dev14_eq d)
/-- A copy of values goes to the round's peer. -/
theorem vDev_eq (d : Dev nD) (r : Fin 7) : vDev d r = peer d r := by
  fin_cases r
  · exact Fin.ext (k0_dev15_eq d)
  · exact Fin.ext (k0_dev16_eq d)
  · exact Fin.ext (k0_dev17_eq d)
  · exact Fin.ext (k0_dev18_eq d)
  · exact Fin.ext (k0_dev19_eq d)
  · exact Fin.ext (k0_dev20_eq d)
  · exact Fin.ext (k0_dev21_eq d)
/-- A copy of context goes to the round's peer. -/
theorem cDev_eq (d : Dev nD) (r : Fin 7) : cDev d r = peer d r := by
  fin_cases r
  · exact Fin.ext (k0_dev22_eq d)
  · exact Fin.ext (k0_dev23_eq d)
  · exact Fin.ext (k0_dev24_eq d)
  · exact Fin.ext (k0_dev25_eq d)
  · exact Fin.ext (k0_dev26_eq d)
  · exact Fin.ext (k0_dev27_eq d)
  · exact Fin.ext (k0_dev28_eq d)

/-- A receive cell of the first exchange lies in its array. -/
theorem inbR1 (o : Fin 8) (t : Fin 2) : ∀ a, (![o.val, t.val] : Fin 2 → ℕ) a + S1x1.size a ≤ S8x2.size a := by
  revert o t; decide
/-- A receive cell of the second exchange lies in its array. -/
theorem inbR2 (o : Fin 8) : ∀ a, (![o.val] : Fin 1 → ℕ) a + S1.size a ≤ S8.size a := by
  revert o; decide

/-- The send cell of a copy of keys. -/
theorem s1S_k (r : Fin 7) : SemLoc.dma (s1S (kIx r)) = s1C 0 r := by revert r; decide
/-- The send cell of a copy of values. -/
theorem s1S_v (r : Fin 7) : SemLoc.dma (s1S (vIx r)) = s1C 1 r := by revert r; decide
/-- The send cell of a copy of context. -/
theorem s2S_eq (r : Fin 7) : SemLoc.dma (s2S r) = s2C r := by revert r; decide
/-- The receive cell of an origin's keys or values. -/
theorem r1S_at (o : Fin 8) (t : Fin 2) : SemLoc.dma (r1S ![o.val, t.val] (inbR1 o t)) = r1C o t := by revert o t; decide
/-- The receive cell of an origin's context. -/
theorem r2S_at (o : Fin 8) : SemLoc.dma (r2S ![o.val] (inbR2 o)) = r2C o := by revert o; decide
/-- The receive cell of an origin's keys or values, however its place is written. -/
theorem r1S_eq (o : Fin 8) (t : Fin 2) (oR : Fin 2 → ℕ) (iR : ∀ a, oR a + S1x1.size a ≤ S8x2.size a) (h : oR = ![o.val, t.val]) :
    SemLoc.dma (r1S oR iR) = r1C o t := by
  subst h; exact r1S_at o t
/-- The receive cell of an origin's context, however its place is written. -/
theorem r2S_eq (o : Fin 8) (oR : Fin 1 → ℕ) (iR : ∀ a, oR a + S1.size a ≤ S8.size a) (h : oR = ![o.val]) :
    SemLoc.dma (r2S oR iR) = r2C o := by
  subst h; exact r2S_at o

/-- A copy of keys or values pays the size of a block. -/
theorem credit_kv (o : Fin 4 → ℕ) (h : ∀ a, o a + S1x1x64x256.size a ≤ S8x2x64x256.size a) : (kvW o h).view.dmaCredit = Nc := rfl
/-- A copy of context pays the size of a block. -/
theorem credit_row (m : Memref sig .tc .vmem S512x256 .bf16) (o : Fin 2 → ℕ) (h : ∀ a, o a + S64x256.size a ≤ S512x256.size a) :
    (rowW m o h).view.dmaCredit = Nc := rfl

/-- What a cell hands over. -/
theorem payload_at (d e : Dev nD) (s : SemLoc sig) : (Rd A).payload (cell d s) 0 e = pay A d e (kind s) := rfl
/-- What a cell is paid. -/
theorem amount_at (d e : Dev nD) (s : SemLoc sig) : (Rd A).amount (cell d s) 0 e = price (kind s) := rfl

/-! ## The signal and the barrier -/

/-- The signal to peer number `r`. -/
theorem wp_sig (K : GSem nD τ sig → ℕ) (d : Dev nD) (r : Fin 7) (Q : PUnit → sProp (MM F)) :
    Inv A K ∗ Ow d (oB d r.val) ∗ dutyTok ER (cell (peer d r) barC) 0 d ∗ barPay d (peer d r) ∗ reached ER (cell (peer d r) barC) 0
      ∗ (Ow d (oB d (r.val + 1)) -∗ Q ⟨⟩)
      ⊢ WP d (semSignalWord (sigDev d r) barS 1#32) Q := by
  rw [sigDev_eq]
  unfold Ow semSignalWord
  have hd : d ∈ (Rd A).duties (cell (peer d r) barC) 0 := by
    rw [duties_zero, kind_bar]
    exact Finset.mem_erase.mpr ⟨(peer_ne d r).symm, Finset.mem_univ d⟩
  iintro ⟨#HI, ⟨%W, HO⟩, Ht, Hp, Hr, Hk⟩
  iapply (Rounds.wp_signal (defs := defs₀ (F := F)) 𝒱₀ ER (Rd A) (Dev.tc (τ := τ) d) none (κ := K (cell (peer d r) barC)) hd rfl () (oB d (r.val + 1)) (oB_step d r)) $$ [HO Ht Hp Hr]
  · isplitr; · iapply (inv_bar A K (peer d r)); iexact HI
    isplitl [HO]; · iexact HO
    isplitl [Ht]; · iexact Ht
    isplitl [Hp]; · iapply (Entails.of_eq (show barPay d (peer d r) = (Rd A).payload (cell (peer d r) barC) 0 d from rfl)); iexact Hp
    iexact Hr
  iintro HO
  rw [wp_ret]
  imodintro
  iapply Hk
  iexists W
  iexact HO

/-- The barrier: every peer's places. -/
theorem wp_bar (K : GSem nD τ sig → ℕ) (d : Dev nD) (Q : PUnit → sProp (MM F)) :
    Inv A K ∗ levAts L lv ∗ Ow d (oK d 0) ∗ cred (tallyAt (cell d barC) () 7) ∗ atPos ER (cell d barC) 0 ∅ 0
      ∗ ((Ow d (oK d 0) ∗ atPos ER (cell d barC) 1 ∅ 0 ∗ bigSep Finset.univ fun r => barPay (peer d r) d) -∗ Q ⟨⟩)
      ⊢ WP d (semWaitWord barS 7#32) Q := by
  unfold Ow semWaitWord
  iintro ⟨#HI, #Hl, ⟨%W, HO⟩, Hc, Ha, Hk⟩
  iapply (Rounds.wp_wait_rest_token (defs := defs₀ (F := F)) 𝒱₀ ER (Rd A) (Dev.tc (τ := τ) d) none (κ := K (cell d barC)) (fun _ => wpE_semWait_eq ..) (Set.mem_univ _) ()
    (k' := 7) (R := 0) (m := 0) (T := ∅) (by rw [Nat.zero_add]; exact (expect_bar A d).symm)) $$ [HO Hc Ha]
  · isplitr; · iapply (inv_bar A K d); iexact HI
    isplitl [Hc]; · iexact Hc
    isplitl [HO]; · iexact HO
    isplitr; · iapply (mayWait d barC (oK d 0) (above_bar d)); iexact Hl
    iexact Ha
  rw [show ((Dev.tc (τ := τ) d, SemLoc.reg barS) : GSem nD τ sig) = cell d barC from rfl, rest_bar A d]
  iintro ⟨HO, Ha, -, Hp⟩
  rw [wp_ret]
  imodintro
  iapply Hk
  isplitl [HO]; · iexists _; iexact HO
  isplitl [Ha]; · iexact Ha
  iexact Hp

/-! ## The copies -/

/-- A copy of the rows of peer number `r` into this device's block of the peer's landing buffer. -/
theorem wp_sendKV (K : GSem nD τ sig → ℕ) (d : Dev nD) (t : Fin 2) (r : Fin 7)
    (src : Memref sig .tc .vmem S512x256 .bf16) (hs : src.IsWhole) (p : Dev nD) (hp : p = peer d r) (i : Fin 14)
    (oR : Fin 2 → ℕ) (iR : ∀ a, oR a + S1x1.size a ≤ S8x2.size a)
    (oK : Fin 4 → ℕ) (iK : ∀ a, oK a + S1x1x64x256.size a ≤ S8x2x64x256.size a)
    (wK : (Rect.unit (s := S8x2x64x256) oK S1x1x64x256.size iK).WholeWords (EltTy.packing .bf16))
    (hi : SemLoc.dma (s1S i) = s1C t r) (hR : SemLoc.dma (r1S oR iR) = r1C d t)
    (O₁ O₂ : CellTallies nD τ sig Unit) (hO : O₁ = O₂ + gK d t r)
    (fs : Buf (Elt F) (at_ src d)) (fd : Vec F S8x2x64x256 .bf16)
    (hsrc : pFlat d t (peer d r) (flat (A.kv d t)) = iprop(at_ src d ↦[(rowW src (k0_off22 d (tw r)) (k0_off22_inb d r)).view.set]{fullShare} fs))
    (hdst : pKv (F := F) (peer d r) d t fd = iprop(at_ X8 (peer d r) ↦[(kvW oK iK).view.set]{fullShare} fd))
    (hland : iprop(at_ X8 (peer d r) ↦[(kvW oK iK).view.set]{fullShare}
        (kvW oK iK).view.write (Elt F) fd ((rowW src (k0_off22 d (tw r)) (k0_off22_inb d r)).view.read (Elt F) fs) Finset.univ)
      ⊢ pKv (peer d r) d t (kvC A (peer d r))) (Q : PUnit → sProp (MM F)) :
    Inv A K ∗ Ow d O₁ ∗ pFlat d t (peer d r) (flat (A.kv d t)) ∗ pKv (peer d r) d t fd
      ∗ dutyTok ER (cell d (s1C t r)) 0 d ∗ reached ER (cell d (s1C t r)) 0
      ∗ dutyTok ER (cell (peer d r) (r1C d t)) 0 d ∗ reached ER (cell (peer d r) (r1C d t)) 0
      ∗ ((cred (tallyAt (cell d (s1C t r)) () Nc) ∗ Ow d O₂) -∗ Q ⟨⟩)
      ⊢ WP d (sendKV src hs d p r i oR iR oK iK wK) Q := by
  subst hp
  rw [hdst]
  have hd₁ : d ∈ (Rd A).duties (cell d (s1C t r)) 0 := by
    rw [duties_zero, kind_s1]; exact Finset.mem_singleton_self d
  have hd₂ : d ∈ (Rd A).duties (cell (peer d r) (r1C d t)) 0 := by
    rw [duties_zero, kind_r1, payers, if_neg (peer_ne d r).symm]; exact Finset.mem_singleton_self d
  have hk₁ : (Rd A).amount (cell d (s1C t r)) 0 d = Nc := by rw [amount_at, kind_s1]; rfl
  have hk₂ : (Rd A).amount (cell (peer d r) (r1C d t)) 0 d = Nc := by rw [amount_at, kind_r1]; rfl
  have hp₁ : iprop(at_ src d ↦[(rowW src (k0_off22 d (tw r)) (k0_off22_inb d r)).view.set]{fullShare} fs)
      ⊢ (Rd A).payload (cell d (s1C t r)) 0 d := by
    rw [← hsrc, payload_at, kind_s1]
    exact Entails.refl
  have hp₂ : iprop(at_ X8 (peer d r) ↦[(kvW oK iK).view.set]{fullShare}
        (kvW oK iK).view.write (Elt F) fd ((rowW src (k0_off22 d (tw r)) (k0_off22_inb d r)).view.read (Elt F) fs) Finset.univ)
      ⊢ (Rd A).payload (cell (peer d r) (r1C d t)) 0 d := by
    rw [payload_at, kind_r1]
    exact hland
  have hO' : O₁ = O₂ + tallyAt (cell (peer d r) (r1C d t)) () Nc := hO
  iintro ⟨#HI, HO, Hs, Hd, Ht₁, Hr₁, Ht₂, Hr₂, Hk⟩
  ihave HI₁ := (inv_of A K d (s1C t r) (osem_s1 t r)) $$ HI
  ihave HI₂ := (inv_of A K (peer d r) (r1C d t) (osem_r1 d t)) $$ HI
  ihave Hs := (Entails.of_eq hsrc) $$ Hs
  clear hsrc
  rw [← hi] at hd₁ hk₁ hp₁ ⊢
  rw [← hR] at hd₂ hk₂ hp₂ hO' ⊢
  unfold Ow sendKV
  icases HO with ⟨%W, HO⟩
  iapply (Rounds.wp_send_pointsTo (defs := defs₀ (F := F)) (src := rowW src (k0_off22 d (tw r)) (k0_off22_inb d r)) (dst := kvW oK iK)
    (c' := Dev.tc (τ := τ) (peer d r)) (fs := fs) (fd := fd) (q := fullShare) 𝒱₀ ER (Rd A) (Dev.tc (τ := τ) d) none hd₁ hd₂ () () Nc
    (credit_kv oK iK) hk₁ hk₂ O₂ hO' hp₁ hp₂) $$ [HI₁ HI₂ HO Hs Hd Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply Hk
  isplitl [Hc]; · iexact Hc
  iexists W
  iexact HO

/-- A wait on a transfer cell that one copy raises: what that copy brought. -/
theorem wp_wait (K : GSem nD τ sig → ℕ) (d e : Dev nD) (s : SemLoc sig) (hs : ∃ k, s = osem k) (hp : payers d (kind s) = {e}) (hn : price (kind s) = Nc)
    (O : CellTallies nD τ sig Unit) (hO : Above (rank (kind s)) O)
    {w : TpuEff nD τ sig (Elt F) Λ₀ .tc PUnit}
    (hw : ∀ Kt : PUnit → sProp (MM F), wpE (defs₀ (F := F)) 𝒱₀ (Dev.tc (τ := τ) d) none Set.univ w Kt = waitSpec (Dev.tc (τ := τ) d) Set.univ s Nc Kt) (Q : PUnit → sProp (MM F)) :
    Inv A K ∗ levAts L lv ∗ Ow d O ∗ cred (tallyAt (cell d s) () Nc) ∗ atPos ER (cell d s) 0 ∅ 0
      ∗ ((Ow d O ∗ atPos ER (cell d s) 1 ∅ 0 ∗ pay A d e (kind s)) -∗ Q ⟨⟩)
      ⊢ WP d (Prog.lift w) Q := by
  unfold Ow
  iintro ⟨#HI, #Hl, ⟨%W, HO⟩, Hc, Ha, Hk⟩
  iapply (Rounds.wp_wait_rest_token (defs := defs₀ (F := F)) 𝒱₀ ER (Rd A) (Dev.tc (τ := τ) d) none (κ := K (cell d s)) hw (Set.mem_univ _) ()
    (k' := Nc) (R := 0) (m := 0) (T := ∅) (by rw [Nat.zero_add]; exact (expect_one A d e s hp hn).symm)) $$ [HO Hc Ha]
  · isplitr; · iapply (inv_of A K d s hs); iexact HI
    isplitl [Hc]; · iexact Hc
    isplitl [HO]; · iexact HO
    isplitr; · iapply (mayWait d s O hO); iexact Hl
    iexact Ha
  rw [rest_one A d e s hp]
  iintro ⟨HO, Ha, -, Hp⟩
  rw [wp_ret]
  imodintro
  iapply Hk
  isplitl [HO]; · iexists _; iexact HO
  isplitl [Ha]; · iexact Ha
  iexact Hp

end Cert.KernelIdeal.P

end
-- ==== Proof.Copies.lean ====
/-
  The copies and the waits of the body at their places: what each hands over and brings back.
-/
module

public import proofs.«01_k».proof.Proof.Talk

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-! ## The windows' elements -/

/-- The indices of a row block of the flat keys, as the copy's source names them. -/
theorem row6_set (b : Fin 8) (o : Fin 2 → ℕ) (h : ∀ a, o a + S64x256.size a ≤ S512x256.size a) (ho : o = ![64 * b.val, 0]) :
    (rowW X6 o h).view.set = rowP b := by
  subst ho; exact (View.set_slice_whole ..).trans (rowR_set b)
/-- The indices of a row block of the flat values, as the copy's source names them. -/
theorem row7_set (b : Fin 8) (o : Fin 2 → ℕ) (h : ∀ a, o a + S64x256.size a ≤ S512x256.size a) (ho : o = ![64 * b.val, 0]) :
    (rowW X7 o h).view.set = rowP b := by
  subst ho; exact (View.set_slice_whole ..).trans (rowR_set b)
/-- The indices of a row block of the context, as the copy names them. -/
theorem row10_set (b : Fin 8) (o : Fin 2 → ℕ) (h : ∀ a, o a + S64x256.size a ≤ S512x256.size a) (ho : o = ![64 * b.val, 0]) :
    (rowW X10 o h).view.set = rowP b := by
  subst ho; exact (View.set_slice_whole ..).trans (rowR_set b)
/-- The indices of the landing buffer that one copy fills. -/
theorem kvW_set (b : Fin 8) (t : Fin 2) (o : Fin 4 → ℕ) (h : ∀ a, o a + S1x1x64x256.size a ≤ S8x2x64x256.size a)
    (ho : o = ![b.val, t.val, 0, 0]) : (kvW o h).view.set = kvP b t := by
  subst ho; exact (View.set_reshape ..).trans ((View.set_slice_whole ..).trans (blkR_set b t))

/-- What a copy of keys leaves in the landing buffer. -/
theorem land6 (c o : Dev nD) (oK : Fin 4 → ℕ) (iK : ∀ a, oK a + S1x1x64x256.size a ≤ S8x2x64x256.size a) (hK : oK = ![o.val, 0, 0, 0])
    (oR : Fin 2 → ℕ) (iR : ∀ a, oR a + S64x256.size a ≤ S512x256.size a) (hR : oR = ![64 * c.val, 0]) :
    (kvW oK iK).view.read (Elt F) (kvC A c) = (rowW X6 oR iR).view.read (Elt F) (flat (A.kv o 0)) := by
  subst hK hR; exact read_land A c o 0 _
/-- What a copy of values leaves in the landing buffer. -/
theorem land7 (c o : Dev nD) (oK : Fin 4 → ℕ) (iK : ∀ a, oK a + S1x1x64x256.size a ≤ S8x2x64x256.size a) (hK : oK = ![o.val, 1, 0, 0])
    (oR : Fin 2 → ℕ) (iR : ∀ a, oR a + S64x256.size a ≤ S512x256.size a) (hR : oR = ![64 * c.val, 0]) :
    (kvW oK iK).view.read (Elt F) (kvC A c) = (rowW X7 oR iR).view.read (Elt F) (flat (A.kv o 1)) := by
  subst hK hR; exact read_land A c o 1 _

/-- A landing in the landing buffer is the place at what was meant for it. -/
theorem landed (p : Dev nD) (o : Dev nD) (t : Fin 2) (oK : Fin 4 → ℕ) (iK : ∀ a, oK a + S1x1x64x256.size a ≤ S8x2x64x256.size a)
    (hK : oK = ![o.val, t.val, 0, 0]) (fd : Vec F S8x2x64x256 .bf16) (w : Vec F S64x256 .bf16) (h : (kvW oK iK).view.read (Elt F) (kvC A p) = w) :
    iprop(at_ X8 p ↦[(kvW oK iK).view.set]{fullShare} (kvW oK iK).view.write (Elt F) fd w Finset.univ) ⊢ pKv p o t (kvC A p) := by
  rw [pointsTo_congr (write_agrees (kvW oK iK).view fd (kvC A p) w h), kvW_set o t oK iK hK]
  exact Entails.refl

/-! ## The K and V copies -/

/-- The copy of K rows to peer number `r`. -/
theorem wp_sendK (K : GSem nD τ sig → ℕ) (d : Dev nD) (r : Fin 7) (fd : Vec F S8x2x64x256 .bf16) (Q : PUnit → sProp (MM F)) :
    Inv A K ∗ Ow d (oK d r.val) ∗ pFlat d 0 (peer d r) (flat (A.kv d 0)) ∗ pKv (peer d r) d 0 fd
      ∗ dutyTok ER (cell d (s1C 0 r)) 0 d ∗ reached ER (cell d (s1C 0 r)) 0
      ∗ dutyTok ER (cell (peer d r) (r1C d 0)) 0 d ∗ reached ER (cell (peer d r) (r1C d 0)) 0
      ∗ ((cred (tallyAt (cell d (s1C 0 r)) () Nc) ∗ Ow d (oK d (r.val + 1))) -∗ Q ⟨⟩)
      ⊢ WP d (sendKV X6 hX6 d (kDev d r) r (kIx r) (k0_off20 d) (k0_off20_inb d) (k0_off21 d) (k0_off21_inb d) (k0_off21_wordsbf16 d)) Q :=
  wp_sendKV A K d 0 r X6 hX6 _ (kDev_eq d r) _ _ _ _ _ _ (s1S_k r) (r1S_eq d 0 _ _ (k0_off20_eq d)) _ _ (oK_step d r) (flat (A.kv d 0)) fd
    (by rw [row6_set (peer d r) _ _ (k0_off22_eq d r)]; rfl) (by rw [kvW_set d 0 _ _ (k0_off21_eq d)]; rfl)
    (landed A (peer d r) d 0 _ _ (k0_off21_eq d) fd _ (land6 A (peer d r) d _ _ (k0_off21_eq d) _ _ (k0_off22_eq d r))) Q

/-- The copy of V rows to peer number `r`. -/
theorem wp_sendV (K : GSem nD τ sig → ℕ) (d : Dev nD) (r : Fin 7) (fd : Vec F S8x2x64x256 .bf16) (Q : PUnit → sProp (MM F)) :
    Inv A K ∗ Ow d (oV d r.val) ∗ pFlat d 1 (peer d r) (flat (A.kv d 1)) ∗ pKv (peer d r) d 1 fd
      ∗ dutyTok ER (cell d (s1C 1 r)) 0 d ∗ reached ER (cell d (s1C 1 r)) 0
      ∗ dutyTok ER (cell (peer d r) (r1C d 1)) 0 d ∗ reached ER (cell (peer d r) (r1C d 1)) 0
      ∗ ((cred (tallyAt (cell d (s1C 1 r)) () Nc) ∗ Ow d (oV d (r.val + 1))) -∗ Q ⟨⟩)
      ⊢ WP d (sendKV X7 hX7 d (vDev d r) r (vIx r) (k0_off23 d) (k0_off23_inb d) (k0_off24 d) (k0_off24_inb d) (k0_off24_wordsbf16 d)) Q :=
  wp_sendKV A K d 1 r X7 hX7 _ (vDev_eq d r) _ _ _ _ _ _ (s1S_v r) (r1S_eq d 1 _ _ (k0_off23_eq d)) _ _ (oV_step d r) (flat (A.kv d 1)) fd
    (by rw [row7_set (peer d r) _ _ (k0_off22_eq d r)]; rfl) (by rw [kvW_set d 1 _ _ (k0_off24_eq d)]; rfl)
    (landed A (peer d r) d 1 _ _ (k0_off24_eq d) fd _ (land7 A (peer d r) d _ _ (k0_off24_eq d) _ _ (k0_off22_eq d r))) Q

/-! ## The context copies -/

/-- The copy of the device's context rows to peer number `r`, read through one loan of them. -/
theorem wp_sendC (K : GSem nD τ sig → ℕ) (d : Dev nD) (r : Fin 7) (fd : Vec F S512x256 .bf16) (Q : PUnit → sProp (MM F)) :
    Inv A K ∗ Ow d (oC d r.val) ∗ pCtx d (lend r.val fullShare) d (ctxC A) ∗ pCtx (peer d r) fullShare d fd
      ∗ dutyTok ER (cell d (s2C r)) 0 d ∗ reached ER (cell d (s2C r)) 0
      ∗ dutyTok ER (cell (peer d r) (r2C d)) 0 d ∗ reached ER (cell (peer d r) (r2C d)) 0
      ∗ ((cred (tallyAt (cell d (s2C r)) () Nc) ∗ Ow d (oC d (r.val + 1))) -∗ Q ⟨⟩)
      ⊢ WP d (sendC d (cDev d r) r) Q := by
  rw [cDev_eq]
  have hset := row10_set d (k0_off47 d) (k0_off47_inb d) (k0_off47_eq d)
  have hsrc : pCtx d (lend r.val fullShare) d (ctxC A)
      = iprop(at_ X10 d ↦[(rowW X10 (k0_off47 d) (k0_off47_inb d)).view.set]{lend r.val fullShare} (ctxC A)) := by rw [hset]; rfl
  have hdst : pCtx (F := F) (peer d r) fullShare d fd
      = iprop(at_ X10 (peer d r) ↦[(rowW X10 (k0_off47 d) (k0_off47_inb d)).view.set]{fullShare} fd) := by rw [hset]; rfl
  have hd₁ : d ∈ (Rd A).duties (cell d (s2C r)) 0 := by
    rw [duties_zero, kind_s2]; exact Finset.mem_singleton_self d
  have hd₂ : d ∈ (Rd A).duties (cell (peer d r) (r2C d)) 0 := by
    rw [duties_zero, kind_r2, payers, if_neg (peer_ne d r).symm]; exact Finset.mem_singleton_self d
  have hk₁ : (Rd A).amount (cell d (s2C r)) 0 d = Nc := by rw [amount_at, kind_s2]; rfl
  have hk₂ : (Rd A).amount (cell (peer d r) (r2C d)) 0 d = Nc := by rw [amount_at, kind_r2]; rfl
  have hp₁ : iprop(at_ X10 d ↦[(rowW X10 (k0_off47 d) (k0_off47_inb d)).view.set]{lend r.val fullShare} (ctxC A))
      ⊢ (Rd A).payload (cell d (s2C r)) 0 d := by
    rw [← hsrc, payload_at, kind_s2]
    exact Entails.refl
  have hp₂ : iprop(at_ X10 (peer d r) ↦[(rowW X10 (k0_off47 d) (k0_off47_inb d)).view.set]{fullShare}
        (rowW X10 (k0_off47 d) (k0_off47_inb d)).view.write (Elt F) fd ((rowW X10 (k0_off47 d) (k0_off47_inb d)).view.read (Elt F) (ctxC A)) Finset.univ)
      ⊢ (Rd A).payload (cell (peer d r) (r2C d)) 0 d := by
    rw [payload_at, kind_r2, pointsTo_congr (write_agrees (rowW X10 (k0_off47 d) (k0_off47_inb d)).view fd (ctxC A) _ rfl), hset]
    exact Entails.refl
  have hO' : oC d r.val = oC d (r.val + 1) + tallyAt (cell (peer d r) (r2C d)) () Nc := oC_step d r
  have hi := s2S_eq r
  have hR := r2S_eq d (k0_off46 d) (k0_off46_inb d) (k0_off46_eq d)
  iintro ⟨#HI, HO, Hs, Hd, Ht₁, Hr₁, Ht₂, Hr₂, Hk⟩
  ihave HI₁ := (inv_of A K d (s2C r) (osem_s2 r)) $$ HI
  ihave HI₂ := (inv_of A K (peer d r) (r2C d) (osem_r2 d)) $$ HI
  ihave Hs := (Entails.of_eq hsrc) $$ Hs
  ihave Hd := (Entails.of_eq hdst) $$ Hd
  clear hsrc hdst
  rw [← hi] at hd₁ hk₁ hp₁ ⊢
  rw [← hR] at hd₂ hk₂ hp₂ hO' ⊢
  unfold Ow sendC
  icases HO with ⟨%W, HO⟩
  iapply (Rounds.wp_send_pointsTo (defs := defs₀ (F := F)) (src := rowW X10 (k0_off47 d) (k0_off47_inb d)) (dst := rowW X10 (k0_off47 d) (k0_off47_inb d))
    (c' := Dev.tc (τ := τ) (peer d r)) (fs := ctxC A) (fd := fd) (q := lend r.val fullShare) 𝒱₀ ER (Rd A) (Dev.tc (τ := τ) d) none hd₁ hd₂ () () Nc
    (credit_row X10 _ _) hk₁ hk₂ (oC d (r.val + 1)) hO' hp₁ hp₂) $$ [HI₁ HI₂ HO Hs Hd Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply Hk
  isplitl [Hc]; · iexact Hc
  iexists W
  iexact HO

/-! ## The waits -/

/-- The wait for origin `o`'s K or V. -/
theorem wp_waitKV (K : GSem nD τ sig → ℕ) (d : Dev nD) (o : Dev nD) (ho : o ≠ d) (t : Fin 2)
    (oR : Fin 2 → ℕ) (iR : ∀ a, oR a + S1x1.size a ≤ S8x2.size a) (hR : oR = ![o.val, t.val])
    (oK : Fin 4 → ℕ) (iK : ∀ a, oK a + S1x1x64x256.size a ≤ S8x2x64x256.size a)
    (wK : (Rect.unit (s := S8x2x64x256) oK S1x1x64x256.size iK).WholeWords (EltTy.packing .bf16)) (Q : PUnit → sProp (MM F)) :
    Inv A K ∗ levAts L lv ∗ Ow d (oC d 0) ∗ cred (tallyAt (cell d (r1C o t)) () Nc) ∗ atPos ER (cell d (r1C o t)) 0 ∅ 0
      ∗ ((Ow d (oC d 0) ∗ atPos ER (cell d (r1C o t)) 1 ∅ 0 ∗ pKv d o t (kvC A d)) -∗ Q ⟨⟩)
      ⊢ WP d (waitKV oR iR oK iK wK) Q := by
  have h := wp_wait A K d o (r1C o t) (osem_r1 o t) (by rw [kind_r1]; exact if_neg ho) (by rw [kind_r1]; rfl) (oC d 0)
    (by rw [kind_r1]; exact above_kv d) (w := .waitDma2 (r1S oR iR) (kvW oK iK) (kvW oK iK)
      ((hX8.wordExact_slice rfl _ wK).reshape _ _) ((hX8.wordExact_slice rfl _ wK).reshape _ _))
    (fun _ => by rw [← r1S_eq o t oR iR hR]; exact wpE_waitDma2_eq ..) Q
  rw [kind_r1] at h
  exact h

/-- The wait for peer number `r`'s context rows. -/
theorem wp_waitC (K : GSem nD τ sig → ℕ) (d : Dev nD) (r : Fin 7) (Q : PUnit → sProp (MM F)) :
    Inv A K ∗ levAts L lv ∗ Ow d 0 ∗ cred (tallyAt (cell d (r2C (peer d r))) () Nc) ∗ atPos ER (cell d (r2C (peer d r))) 0 ∅ 0
      ∗ ((Ow d 0 ∗ atPos ER (cell d (r2C (peer d r))) 1 ∅ 0 ∗ pCtx d fullShare (peer d r) (ctxC A)) -∗ Q ⟨⟩)
      ⊢ WP d (waitC d r) Q := by
  have h := wp_wait A K d (peer d r) (r2C (peer d r)) (osem_r2 _) (by rw [kind_r2]; exact if_neg (peer_ne d r)) (by rw [kind_r2]; rfl) 0
    (fun g u hg => absurd hg (Nat.lt_irrefl 0)) (w := .waitDma2 (r2S (k0_off48 d (tw r)) (k0_off48_inb d r)) (rowW X10 (k0_off22 d (tw r)) (k0_off22_inb d r))
      (rowW X10 (k0_off22 d (tw r)) (k0_off22_inb d r))
      (hX10.wordExact_slice rfl _ (k0_off22_wordsbf16 d r)) (hX10.wordExact_slice rfl _ (k0_off22_wordsbf16 d r)))
    (fun _ => by rw [← r2S_eq (peer d r) _ (k0_off48_inb d r) (k0_off48_eq d r)]; exact wpE_waitDma2_eq ..) Q
  rw [kind_r2] at h
  exact h

/-- The wait for the departure of a K or V copy: the rows it read. -/
theorem wp_waitSent (K : GSem nD τ sig → ℕ) (d : Dev nD) (t : Fin 2) (r : Fin 7)
    (src : Memref sig .tc .vmem S512x256 .bf16) (hs : src.IsWhole) (i : Fin 14) (hi : SemLoc.dma (s1S i) = s1C t r)
    (oK : Fin 4 → ℕ) (iK : ∀ a, oK a + S1x1x64x256.size a ≤ S8x2x64x256.size a)
    (wK : (Rect.unit (s := S8x2x64x256) oK S1x1x64x256.size iK).WholeWords (EltTy.packing .bf16)) (Q : PUnit → sProp (MM F)) :
    Inv A K ∗ levAts L lv ∗ Ow d 0 ∗ cred (tallyAt (cell d (s1C t r)) () Nc) ∗ atPos ER (cell d (s1C t r)) 0 ∅ 0
      ∗ ((Ow d 0 ∗ atPos ER (cell d (s1C t r)) 1 ∅ 0 ∗ pFlat d t (peer d r) (flat (A.kv d t))) -∗ Q ⟨⟩)
      ⊢ WP d (waitSent src hs d r i oK iK wK) Q := by
  have h := wp_wait A K d d (s1C t r) (osem_s1 t r) (by rw [kind_s1]; rfl) (by rw [kind_s1]; rfl) 0
    (fun g u hg => absurd hg (Nat.lt_irrefl 0)) (w := .waitDma2 (s1S i) (kvW oK iK) (rowW src (k0_off22 d (tw r)) (k0_off22_inb d r))
      ((hX8.wordExact_slice rfl _ wK).reshape _ _) (hs.wordExact_slice rfl _ (k0_off22_wordsbf16 d r)))
    (fun _ => by rw [← hi]; exact wpE_waitDma2_eq ..) Q
  rw [kind_s1] at h
  exact h

/-- The wait for the departure of a context copy: its loan back. -/
theorem wp_waitSentC (K : GSem nD τ sig → ℕ) (d : Dev nD) (r : Fin 7) (Q : PUnit → sProp (MM F)) :
    Inv A K ∗ levAts L lv ∗ Ow d 0 ∗ cred (tallyAt (cell d (s2C r)) () Nc) ∗ atPos ER (cell d (s2C r)) 0 ∅ 0
      ∗ ((Ow d 0 ∗ atPos ER (cell d (s2C r)) 1 ∅ 0 ∗ pCtx d (lend r.val fullShare) d (ctxC A)) -∗ Q ⟨⟩)
      ⊢ WP d (waitSentC d r) Q := by
  have h := wp_wait A K d d (s2C r) (osem_s2 r) (by rw [kind_s2]; rfl) (by rw [kind_s2]; rfl) 0
    (fun g u hg => absurd hg (Nat.lt_irrefl 0)) (w := .waitDma2 (s2S r) (rowW X10 (k0_off47 d) (k0_off47_inb d)) (rowW X10 (k0_off47 d) (k0_off47_inb d))
      (hX10.wordExact_slice rfl _ (k0_off47_wordsbf16 d)) (hX10.wordExact_slice rfl _ (k0_off47_wordsbf16 d)))
    (fun _ => by rw [← s2S_eq r]; exact wpE_waitDma2_eq ..) Q
  rw [kind_s2] at h
  exact h

end Cert.KernelIdeal.P

end
-- ==== Proof.Blocks.lean ====
/-
  The buffers cut into the pieces that the steps and the cells pass on, and the runs over one block of four heads.
-/
module

public import proofs.«01_k».proof.Proof.Copies

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-! ## One device's own part and the seven others' -/

/-- Eight parts: the device's own and the seven at a distance after it. -/
theorem by_peer (d : Dev nD) (Φ : Fin 8 → sProp (MM F)) :
    bigSep Finset.univ Φ = iprop(Φ d ∗ bigSep Finset.univ fun r => Φ (peer d r)) :=
  (bigSep_univ_at Φ d).trans (congrArg (fun X => iprop(Φ d ∗ X)) (others_peer d Φ))

/-- Eight parts: the device's own and the seven at a distance before it. -/
theorem by_orig (d : Dev nD) (Φ : Fin 8 → sProp (MM F)) :
    bigSep Finset.univ Φ = iprop(Φ d ∗ bigSep Finset.univ fun r => Φ (orig d r)) :=
  (bigSep_univ_at Φ d).trans (congrArg (fun X => iprop(Φ d ∗ X)) (others_orig d Φ))

/-- Four parts written out. -/
theorem four (Φ : Fin 4 → sProp (MM F)) : bigSep Finset.univ Φ = iprop(Φ 0 ∗ Φ 1 ∗ Φ 2 ∗ Φ 3) := by
  rw [bigSep_univ_eq_bigSepL [0, 1, 2, 3] (by decide) (by decide)]
  rfl

/-- An index lies in row block `b` when its row block is `b`. -/
theorem mem_rowP {i : S512x256.Idx} {b : Fin 8} : i ∈ rowP b ↔ rb i = b :=
  ⟨fun h => (Finset.mem_filter.mp h).2, fun h => Finset.mem_filter.mpr ⟨Finset.mem_univ i, h⟩⟩
/-- An index lies in a box when its row block and its head are the box's. -/
theorem mem_boxP {i : S512x256.Idx} {b : Fin 8} {h : Fin 4} : i ∈ boxP b h ↔ i ∈ rowP b ∧ ch i = h := Finset.mem_filter

/-- A held region is the star of parts that a key tells apart. -/
theorem pts_parts {T : Type} [Fintype T] [DecidableEq T] (ℓ : Loc nD τ sig) (S : Finset (Idx ℓ)) (P : T → Finset (Idx ℓ)) (key : Idx ℓ → T)
    (h : ∀ t i, i ∈ P t ↔ i ∈ S ∧ key i = t) (q : PosShare TreeShare) (f : Buf (Elt F) ℓ) :
    (ℓ ↦[S]{q} f : sProp (MM F)) = bigSep Finset.univ fun t => ℓ ↦[P t]{q} f := by
  rw [pts_fibres S key q f]
  refine bigSep_congr fun t _ => ?_
  rw [show S.filter (fun i => key i = t) = P t from Finset.ext fun i => by rw [Finset.mem_filter, h]]

/-- A 512-row buffer by blocks of rows, and a block of rows by heads. -/
theorem rows_cut6 (d : Dev nD) (f : Vec F S512x256 .bf16) :
    (iprop(at_ X6 d ↦[Finset.univ]{fullShare} f) : sProp (MM F)) = bigSep Finset.univ fun b : Fin 8 => pFlat d 0 b f :=
  pts_parts (at_ X6 d) Finset.univ rowP rb (fun _ i => mem_rowP.trans ⟨fun h => ⟨Finset.mem_univ i, h⟩, And.right⟩) fullShare f
/-- The flat values, cut into the eight row blocks. -/
theorem rows_cut7 (d : Dev nD) (f : Vec F S512x256 .bf16) :
    (iprop(at_ X7 d ↦[Finset.univ]{fullShare} f) : sProp (MM F)) = bigSep Finset.univ fun b : Fin 8 => pFlat d 1 b f :=
  pts_parts (at_ X7 d) Finset.univ rowP rb (fun _ i => mem_rowP.trans ⟨fun h => ⟨Finset.mem_univ i, h⟩, And.right⟩) fullShare f
/-- The context, cut into the eight row blocks. -/
theorem rows_cut10 (d : Dev nD) (f : Vec F S512x256 .bf16) :
    (iprop(at_ X10 d ↦[Finset.univ]{fullShare} f) : sProp (MM F)) = bigSep Finset.univ fun b : Fin 8 => pCtx d fullShare b f :=
  pts_parts (at_ X10 d) Finset.univ rowP rb (fun _ i => mem_rowP.trans ⟨fun h => ⟨Finset.mem_univ i, h⟩, And.right⟩) fullShare f
/-- A row block of the flat keys, cut into the four heads' boxes. -/
theorem flat_heads (d : Dev nD) (b : Fin 8) (f : Vec F S512x256 .bf16) :
    (pFlat d 0 b f : sProp (MM F)) = bigSep Finset.univ fun h => iprop(at_ X6 d ↦[boxP b h]{fullShare} f) :=
  pts_parts (at_ X6 d) (rowP b) (boxP b) ch (fun _ _ => mem_boxP) fullShare f
/-- A row block of the flat values, cut into the four heads' boxes. -/
theorem flat_heads' (d : Dev nD) (b : Fin 8) (f : Vec F S512x256 .bf16) :
    (pFlat d 1 b f : sProp (MM F)) = bigSep Finset.univ fun h => iprop(at_ X7 d ↦[boxP b h]{fullShare} f) :=
  pts_parts (at_ X7 d) (rowP b) (boxP b) ch (fun _ _ => mem_boxP) fullShare f
/-- A row block of the context, cut into the four heads' boxes. -/
theorem ctx_heads (d : Dev nD) (b : Fin 8) (f : Vec F S512x256 .bf16) :
    (pCtx d fullShare b f : sProp (MM F)) = bigSep Finset.univ fun h => iprop(at_ X10 d ↦[boxP b h]{fullShare} f) :=
  pts_parts (at_ X10 d) (rowP b) (boxP b) ch (fun _ _ => mem_boxP) fullShare f

/-- The landing buffer by origins. -/
theorem kv_cut (d : Dev nD) (f : Vec F S8x2x64x256 .bf16) :
    (iprop(at_ X8 d ↦[Finset.univ]{fullShare} f) : sProp (MM F))
      = bigSep Finset.univ fun o : Fin 8 => iprop(pKv d o 0 f ∗ pKv d o 1 f) := by
  refine (pts_parts (at_ X8 d) Finset.univ (fun t : Fin 8 × Fin 2 => kvP t.1 t.2) kvKey
    (fun t i => ⟨fun h => ⟨Finset.mem_univ i, (Finset.mem_filter.mp h).2⟩, fun h => Finset.mem_filter.mpr h⟩) fullShare f).trans ((bigSep_univ_prod _).trans ?_)
  exact bigSep_congr fun o _ => bigSep_univ_two fun t => (pKv d o t f : sProp (MM F))

/-- The scores against origin `o`, by heads. -/
def pSc (d : Dev nD) (o : Fin 8) (f : Vec F S4x8x64x64 .f32) : sProp (MM F) :=
  bigSep Finset.univ fun h : Fin 4 => iprop(at_ X9 d ↦[scP h o]{fullShare} f)

/-- The scores by origins. -/
theorem sc_cut (d : Dev nD) (f : Vec F S4x8x64x64 .f32) :
    (iprop(at_ X9 d ↦[Finset.univ]{fullShare} f) : sProp (MM F)) = bigSep Finset.univ fun o : Fin 8 => pSc d o f := by
  refine (pts_parts (at_ X9 d) Finset.univ (fun t : Fin 4 × Fin 8 => scP t.1 t.2) scKey
    (fun t i => ⟨fun h => ⟨Finset.mem_univ i, (Finset.mem_filter.mp h).2⟩, fun h => Finset.mem_filter.mpr h⟩) fullShare f).trans ((bigSep_univ_prod _).trans ?_)
  exact bigSep_univ_comm fun (h : Fin 4) (o : Fin 8) => (iprop(at_ X9 d ↦[scP h o]{fullShare} f) : sProp (MM F))

/-! ## The relays -/

/-- One head of one block, at its place. -/
theorem wp_head_at (d : Dev nD) (b : Fin 8) (h : Fin 4) (src : Memref sig .tc .vmem S512x4x64 .bf16) (dst : Memref sig .tc .vmem S512x256 .bf16) (hd : dst.IsWhole)
    (oS : Fin 3 → ℕ) (iS : ∀ a, oS a + S64x1x64.size a ≤ S512x4x64.size a) (eS : oS = ![64 * b.val, h.val, 0])
    (oD : Fin 2 → ℕ) (iD : ∀ a, oD a + S64x64.size a ≤ S512x256.size a) (eD : oD = ![64 * b.val, 64 * h.val])
    (pk : (Rect.unit (s := S512x256) oD S64x64.size iD).PackedRows (EltTy.packing .bf16))
    {T : Fin 4 → Finset (Idx (at_ dst d))} (hT : ∀ h, (dst.access (boxR b h)).set = T h)
    {fs : Buf (Elt F) (at_ src d)} {f g : Buf (Elt F) (at_ dst d)}
    (hg : ∀ h, (dst.access (boxR b h)).read (Elt F) g = k0_pay2 ((src.access (hdR b h)).read (Elt F) fs)) (Q : PUnit → sProp (MM F)) :
    (at_ src d ↦[Finset.univ]{fullShare} fs) ∗ (at_ dst d ↦[T h]{fullShare} f)
      ∗ ((at_ src d ↦[Finset.univ]{fullShare} fs) ∗ (at_ dst d ↦[T h]{fullShare} g) -∗ Q ⟨⟩)
      ⊢ WP d (head src dst hd oS iS oD iD pk) Q := by
  subst eS eD
  exact wp_head d src dst hd _ iS _ iD pk (Finset.subset_univ _) (hT h) (hg h) Q

/-- The device's own block laid flat. -/
theorem wp_own (d : Dev nD) (src : Memref sig .tc .vmem S512x4x64 .bf16) (dst : Memref sig .tc .vmem S512x256 .bf16) (hd : dst.IsWhole)
    {T : Fin 4 → Finset (Idx (at_ dst d))} (hT : ∀ h, (dst.access (boxR d h)).set = T h)
    {fs : Buf (Elt F) (at_ src d)} {f g : Buf (Elt F) (at_ dst d)}
    (hg : ∀ h, (dst.access (boxR d h)).read (Elt F) g = k0_pay2 ((src.access (hdR d h)).read (Elt F) fs)) (Q : PUnit → sProp (MM F)) :
    (at_ src d ↦[Finset.univ]{fullShare} fs) ∗ (bigSep Finset.univ fun h => at_ dst d ↦[T h]{fullShare} f)
      ∗ ((at_ src d ↦[Finset.univ]{fullShare} fs) ∗ (bigSep Finset.univ fun h => at_ dst d ↦[T h]{fullShare} g) -∗ Q ⟨⟩)
      ⊢ WP d (ownRelay src dst hd d) Q := by
  rw [four, four]
  unfold ownRelay
  iintro ⟨Hs, ⟨H0, H1, H2, H3⟩, Hk⟩
  iapply (wp_seq d)
  iapply (wp_head_at d d 0 src dst hd _ _ (k0_off1_eq d) _ _ (k0_off2_eq d) _ hT hg)
  isplitl [Hs]; · iexact Hs
  isplitl [H0]; · iexact H0
  iintro ⟨Hs, H0⟩
  iapply (wp_seq d)
  iapply (wp_head_at d d 1 src dst hd _ _ (k0_off3_eq d) _ _ (k0_off4_eq d) _ hT hg)
  isplitl [Hs]; · iexact Hs
  isplitl [H1]; · iexact H1
  iintro ⟨Hs, H1⟩
  iapply (wp_seq d)
  iapply (wp_head_at d d 2 src dst hd _ _ (k0_off5_eq d) _ _ (k0_off6_eq d) _ hT hg)
  isplitl [Hs]; · iexact Hs
  isplitl [H2]; · iexact H2
  iintro ⟨Hs, H2⟩
  iapply (wp_head_at d d 3 src dst hd _ _ (k0_off7_eq d) _ _ (k0_off8_eq d) _ hT hg)
  isplitl [Hs]; · iexact Hs
  isplitl [H3]; · iexact H3
  iintro ⟨Hs, H3⟩
  iapply Hk
  isplitl [Hs]; · iexact Hs
  isplitl [H0]; · iexact H0
  isplitl [H1]; · iexact H1
  isplitl [H2]; · iexact H2
  iexact H3

/-- Peer number `r`'s block laid flat. -/
theorem wp_relay (d : Dev nD) (r : Fin 7) (src : Memref sig .tc .vmem S512x4x64 .bf16) (dst : Memref sig .tc .vmem S512x256 .bf16) (hd : dst.IsWhole)
    {T : Fin 4 → Finset (Idx (at_ dst d))} (hT : ∀ h, (dst.access (boxR (peer d r) h)).set = T h)
    {fs : Buf (Elt F) (at_ src d)} {f g : Buf (Elt F) (at_ dst d)}
    (hg : ∀ h, (dst.access (boxR (peer d r) h)).read (Elt F) g = k0_pay2 ((src.access (hdR (peer d r) h)).read (Elt F) fs)) (Q : PUnit → sProp (MM F)) :
    (at_ src d ↦[Finset.univ]{fullShare} fs) ∗ (bigSep Finset.univ fun h => at_ dst d ↦[T h]{fullShare} f)
      ∗ ((at_ src d ↦[Finset.univ]{fullShare} fs) ∗ (bigSep Finset.univ fun h => at_ dst d ↦[T h]{fullShare} g) -∗ Q ⟨⟩)
      ⊢ WP d (relay src dst hd d r) Q := by
  rw [four, four]
  unfold relay
  iintro ⟨Hs, ⟨H0, H1, H2, H3⟩, Hk⟩
  iapply (wp_seq d)
  iapply (wp_head_at d (peer d r) 0 src dst hd _ _ (k0_off12_eq d r) _ _ (k0_off13_eq d r) _ hT hg)
  isplitl [Hs]; · iexact Hs
  isplitl [H0]; · iexact H0
  iintro ⟨Hs, H0⟩
  iapply (wp_seq d)
  iapply (wp_head_at d (peer d r) 1 src dst hd _ _ (k0_off14_eq d r) _ _ (k0_off15_eq d r) _ hT hg)
  isplitl [Hs]; · iexact Hs
  isplitl [H1]; · iexact H1
  iintro ⟨Hs, H1⟩
  iapply (wp_seq d)
  iapply (wp_head_at d (peer d r) 2 src dst hd _ _ (k0_off16_eq d r) _ _ (k0_off17_eq d r) _ hT hg)
  isplitl [Hs]; · iexact Hs
  isplitl [H2]; · iexact H2
  iintro ⟨Hs, H2⟩
  iapply (wp_head_at d (peer d r) 3 src dst hd _ _ (k0_off18_eq d r) _ _ (k0_off19_eq d r) _ hT hg)
  isplitl [Hs]; · iexact Hs
  isplitl [H3]; · iexact H3
  iintro ⟨Hs, H3⟩
  iapply Hk
  isplitl [Hs]; · iexact Hs
  isplitl [H0]; · iexact H0
  isplitl [H1]; · iexact H1
  isplitl [H2]; · iexact H2
  iexact H3

/-- The indices that a box of the flat keys reaches. -/
theorem box6 (b : Fin 8) (h : Fin 4) : (X6.access (boxR b h)).set = boxP b h := (View.set_slice_whole ..).trans (boxR_set b h)
/-- The indices that a box of the flat values reaches. -/
theorem box7 (b : Fin 8) (h : Fin 4) : (X7.access (boxR b h)).set = boxP b h := (View.set_slice_whole ..).trans (boxR_set b h)
/-- The indices that a box of the context reaches. -/
theorem box10 (b : Fin 8) (h : Fin 4) : (X10.access (boxR b h)).set = boxP b h := (View.set_slice_whole ..).trans (boxR_set b h)

/-- The own K block, at its place. -/
theorem wp_ownK (d : Dev nD) (f : Vec F S512x256 .bf16) (Q : PUnit → sProp (MM F)) :
    (at_ X2 d ↦[Finset.univ]{fullShare} A.kv d 0) ∗ pFlat d 0 d f
      ∗ ((at_ X2 d ↦[Finset.univ]{fullShare} A.kv d 0) ∗ pFlat d 0 d (flat (A.kv d 0)) -∗ Q ⟨⟩) ⊢ WP d (ownRelay X2 X6 hX6 d) Q := by
  rw [flat_heads, flat_heads]
  exact wp_own d X2 X6 hX6 (T := boxP d) (box6 d) (fs := A.kv d 0) (g := flat (A.kv d 0)) (fun h => read_hd (A.kv d 0) d h) Q
/-- The own V block, at its place. -/
theorem wp_ownV (d : Dev nD) (f : Vec F S512x256 .bf16) (Q : PUnit → sProp (MM F)) :
    (at_ X3 d ↦[Finset.univ]{fullShare} A.kv d 1) ∗ pFlat d 1 d f
      ∗ ((at_ X3 d ↦[Finset.univ]{fullShare} A.kv d 1) ∗ pFlat d 1 d (flat (A.kv d 1)) -∗ Q ⟨⟩) ⊢ WP d (ownRelay X3 X7 hX7 d) Q := by
  rw [flat_heads', flat_heads']
  exact wp_own d X3 X7 hX7 (T := boxP d) (box7 d) (fs := A.kv d 1) (g := flat (A.kv d 1)) (fun h => read_hd (A.kv d 1) d h) Q
/-- A peer's K block, at its place. -/
theorem wp_relayK (d : Dev nD) (r : Fin 7) (f : Vec F S512x256 .bf16) (Q : PUnit → sProp (MM F)) :
    (at_ X2 d ↦[Finset.univ]{fullShare} A.kv d 0) ∗ pFlat d 0 (peer d r) f
      ∗ ((at_ X2 d ↦[Finset.univ]{fullShare} A.kv d 0) ∗ pFlat d 0 (peer d r) (flat (A.kv d 0)) -∗ Q ⟨⟩) ⊢ WP d (relay X2 X6 hX6 d r) Q := by
  rw [flat_heads, flat_heads]
  exact wp_relay d r X2 X6 hX6 (T := boxP (peer d r)) (box6 _) (fs := A.kv d 0) (g := flat (A.kv d 0)) (fun h => read_hd (A.kv d 0) (peer d r) h) Q
/-- A peer's V block, at its place. -/
theorem wp_relayV (d : Dev nD) (r : Fin 7) (f : Vec F S512x256 .bf16) (Q : PUnit → sProp (MM F)) :
    (at_ X3 d ↦[Finset.univ]{fullShare} A.kv d 1) ∗ pFlat d 1 (peer d r) f
      ∗ ((at_ X3 d ↦[Finset.univ]{fullShare} A.kv d 1) ∗ pFlat d 1 (peer d r) (flat (A.kv d 1)) -∗ Q ⟨⟩) ⊢ WP d (relay X3 X7 hX7 d r) Q := by
  rw [flat_heads', flat_heads']
  exact wp_relay d r X3 X7 hX7 (T := boxP (peer d r)) (box7 _) (fs := A.kv d 1) (g := flat (A.kv d 1)) (fun h => read_hd (A.kv d 1) (peer d r) h) Q

/-- The indices of the landing buffer that a device fills from its own rows. -/
theorem keep_set (c : Dev nD) (t : Fin 2) (o : Fin 4 → ℕ) (i : ∀ a, o a + S1x1x64x256.size a ≤ S8x2x64x256.size a) (e : o = ![c.val, t.val, 0, 0]) :
    (X8.access (Rect.unit (s := S8x2x64x256) o S1x1x64x256.size i)).set = kvP c t := by
  subst e; exact (View.set_slice_whole ..).trans (blkR_set c t)
/-- The rows of a flat buffer that a device keeps for itself. -/
theorem keep_src (c : Dev nD) (o : Fin 2 → ℕ) (i : ∀ a, o a + S64x256.size a ≤ S512x256.size a) (e : o = ![64 * c.val, 0]) :
    (Rect.unit (s := S512x256) o S64x256.size i).set = rowP c := by
  subst e; exact rowR_set c

/-- The own K rows kept. -/
theorem wp_keepK (d : Dev nD) (f : Vec F S8x2x64x256 .bf16) (Q : PUnit → sProp (MM F)) :
    pFlat d 0 d (flat (A.kv d 0)) ∗ pKv d d 0 f ∗ (pFlat d 0 d (flat (A.kv d 0)) ∗ pKv d d 0 (kvC A d) -∗ Q ⟨⟩)
      ⊢ WP d (keep X6 d (k0_off10 d) (k0_off10_inb d) (k0_off10_packedbf16 d)) Q := by
  have hg : (X8.access (Rect.unit (s := S8x2x64x256) (k0_off10 d) S1x1x64x256.size (k0_off10_inb d))).read (Elt F) (kvC A d)
      = k0_pay11 ((X6.access (Rect.unit (s := S512x256) (k0_off9 d) S64x256.size (k0_off9_inb d))).read (Elt F) (flat (A.kv d 0))) := by
    have h9 := k0_off9_eq d
    have h10 := k0_off10_eq d
    generalize k0_off9_inb d = i9
    generalize k0_off10_inb d = i10
    revert i9 i10
    rw [h9, h10]
    intro i9 i10
    exact read_keep A d 0
  exact wp_keep d X6 _ _ _ (S := rowP d) (by rw [View.set_slice_whole, keep_src d _ _ (k0_off9_eq d)]) (T := kvP d 0) (keep_set d 0 _ _ (k0_off10_eq d))
    (fs := flat (A.kv d 0)) (g := kvC A d) hg Q
/-- The own V rows kept. -/
theorem wp_keepV (d : Dev nD) (f : Vec F S8x2x64x256 .bf16) (Q : PUnit → sProp (MM F)) :
    pFlat d 1 d (flat (A.kv d 1)) ∗ pKv d d 1 f ∗ (pFlat d 1 d (flat (A.kv d 1)) ∗ pKv d d 1 (kvC A d) -∗ Q ⟨⟩)
      ⊢ WP d (keep X7 d (k0_off11 d) (k0_off11_inb d) (k0_off11_packedbf16 d)) Q := by
  have hg : (X8.access (Rect.unit (s := S8x2x64x256) (k0_off11 d) S1x1x64x256.size (k0_off11_inb d))).read (Elt F) (kvC A d)
      = k0_pay11 ((X7.access (Rect.unit (s := S512x256) (k0_off9 d) S64x256.size (k0_off9_inb d))).read (Elt F) (flat (A.kv d 1))) := by
    have h9 := k0_off9_eq d
    have h11 := k0_off11_eq d
    generalize k0_off9_inb d = i9
    generalize k0_off11_inb d = i11
    revert i9 i11
    rw [h9, h11]
    intro i9 i11
    exact read_keep A d 1
  exact wp_keep d X7 _ _ _ (S := rowP d) (by rw [View.set_slice_whole, keep_src d _ _ (k0_off9_eq d)]) (T := kvP d 1) (keep_set d 1 _ _ (k0_off11_eq d))
    (fs := flat (A.kv d 1)) (g := kvC A d) hg Q

/-! ## The scores -/

/-- One head's scores against origin `o`, at their place. -/
theorem wp_score_at (d : Dev nD) (o : Fin 8) (h : Fin 4)
    (oK : Fin 4 → ℕ) (iK : ∀ a, oK a + S1x1x64x64.size a ≤ S8x2x64x256.size a) (eK : oK = ![o.val, 0, 0, 64 * h.val])
    (oS : Fin 4 → ℕ) (iS : ∀ a, oS a + S1x1x64x64.size a ≤ S4x8x64x64.size a) (eS : oS = ![h.val, o.val, 0, 0])
    (f : Vec F S4x8x64x64 .f32) (Q : PUnit → sProp (MM F)) :
    pKv d o 0 (kvC A d) ∗ (at_ X9 d ↦[scP h o]{fullShare} f) ∗ (pKv d o 0 (kvC A d) ∗ (at_ X9 d ↦[scP h o]{fullShare} scC A d) -∗ Q ⟨⟩)
      ⊢ WP d (score (qC A d) (scPay h) oK iK oS iS) Q := by
  subst eK eS
  exact wp_score d _ _ _ iK _ iS (S := kvP o 0) (by rw [View.set_slice_whole]; exact khR_sub o 0 h) (T := scP h o)
    ((View.set_slice_whole ..).trans (soR_set h o)) (fs := kvC A d) (g := scC A d) (read_so A d o h) Q

/-- The scores against the own block. -/
theorem wp_ownScores (d : Dev nD) (f : Vec F S4x8x64x64 .f32) (Q : PUnit → sProp (MM F)) :
    pKv d d 0 (kvC A d) ∗ pSc d d f ∗ (pKv d d 0 (kvC A d) ∗ pSc d d (scC A d) -∗ Q ⟨⟩) ⊢ WP d (ownScores (qC A d) d) Q := by
  unfold pSc
  rw [four, four]
  unfold ownScores
  iintro ⟨Hs, ⟨H0, H1, H2, H3⟩, Hk⟩
  iapply (wp_seq d)
  iapply (wp_score_at A d d 0 _ _ (k0_off26_eq d) _ _ (k0_off27_eq d) f)
  isplitl [Hs]; · iexact Hs
  isplitl [H0]; · iexact H0
  iintro ⟨Hs, H0⟩
  iapply (wp_seq d)
  iapply (wp_score_at A d d 1 _ _ (k0_off28_eq d) _ _ (k0_off29_eq d) f)
  isplitl [Hs]; · iexact Hs
  isplitl [H1]; · iexact H1
  iintro ⟨Hs, H1⟩
  iapply (wp_seq d)
  iapply (wp_score_at A d d 2 _ _ (k0_off30_eq d) _ _ (k0_off31_eq d) f)
  isplitl [Hs]; · iexact Hs
  isplitl [H2]; · iexact H2
  iintro ⟨Hs, H2⟩
  iapply (wp_score_at A d d 3 _ _ (k0_off32_eq d) _ _ (k0_off33_eq d) f)
  isplitl [Hs]; · iexact Hs
  isplitl [H3]; · iexact H3
  iintro ⟨Hs, H3⟩
  iapply Hk
  isplitl [Hs]; · iexact Hs
  isplitl [H0]; · iexact H0
  isplitl [H1]; · iexact H1
  isplitl [H2]; · iexact H2
  iexact H3

/-- The scores against the block of the origin at distance `r` before. -/
theorem wp_scores (d : Dev nD) (r : Fin 7) (f : Vec F S4x8x64x64 .f32) (Q : PUnit → sProp (MM F)) :
    pKv d (orig d r) 0 (kvC A d) ∗ pSc d (orig d r) f ∗ (pKv d (orig d r) 0 (kvC A d) ∗ pSc d (orig d r) (scC A d) -∗ Q ⟨⟩)
      ⊢ WP d (scores (qC A d) d r) Q := by
  unfold pSc
  rw [four, four]
  unfold scores
  iintro ⟨Hs, ⟨H0, H1, H2, H3⟩, Hk⟩
  iapply (wp_seq d)
  iapply (wp_score_at A d (orig d r) 0 _ _ (k0_off36_eq d r) _ _ (k0_off37_eq d r) f)
  isplitl [Hs]; · iexact Hs
  isplitl [H0]; · iexact H0
  iintro ⟨Hs, H0⟩
  iapply (wp_seq d)
  iapply (wp_score_at A d (orig d r) 1 _ _ (k0_off38_eq d r) _ _ (k0_off39_eq d r) f)
  isplitl [Hs]; · iexact Hs
  isplitl [H1]; · iexact H1
  iintro ⟨Hs, H1⟩
  iapply (wp_seq d)
  iapply (wp_score_at A d (orig d r) 2 _ _ (k0_off40_eq d r) _ _ (k0_off41_eq d r) f)
  isplitl [Hs]; · iexact Hs
  isplitl [H2]; · iexact H2
  iintro ⟨Hs, H2⟩
  iapply (wp_score_at A d (orig d r) 3 _ _ (k0_off42_eq d r) _ _ (k0_off43_eq d r) f)
  isplitl [Hs]; · iexact Hs
  isplitl [H3]; · iexact H3
  iintro ⟨Hs, H3⟩
  iapply Hk
  isplitl [Hs]; · iexact Hs
  isplitl [H0]; · iexact H0
  isplitl [H1]; · iexact H1
  isplitl [H2]; · iexact H2
  iexact H3

/-- One head of the context rows, at its place. -/
theorem wp_attn_at (d : Dev nD) (h : Fin 4) (oD : Fin 2 → ℕ) (iD : ∀ a, oD a + S64x64.size a ≤ S512x256.size a)
    (eD : oD = ![64 * d.val, 64 * h.val])
    (pk : (Rect.unit (s := S512x256) oD S64x64.size iD).PackedRows (EltTy.packing .bf16)) (f : Vec F S512x256 .bf16) (Q : PUnit → sProp (MM F)) :
    (at_ X8 d ↦[Finset.univ]{fullShare} kvC A d) ∗ (at_ X9 d ↦[Finset.univ]{fullShare} scC A d) ∗ (at_ X10 d ↦[boxP d h]{fullShare} f)
      ∗ ((at_ X8 d ↦[Finset.univ]{fullShare} kvC A d) ∗ (at_ X9 d ↦[Finset.univ]{fullShare} scC A d) ∗ (at_ X10 d ↦[boxP d h]{fullShare} ctxC A) -∗ Q ⟨⟩)
      ⊢ WP d (attn h oD iD pk) Q := by
  subst eD
  exact wp_attn d h _ iD pk (T := boxP d h) (box10 d h) (fk := kvC A d) (fs := scC A d) (g := ctxC A) (read_ctx A d h) Q

end Cert.KernelIdeal.P

end
-- ==== Proof.PhaseA.lean ====
/-
  The first part of the body: the signals, the own block, the barrier, and the K and V copies.
-/
module

public import proofs.«01_k».proof.Proof.Blocks

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-- Every transfer cell of a device is open. -/
def Rch (d : Dev nD) : sProp (MM F) := bigSep Finset.univ fun k : Fin 45 => reached ER (cell d (osem k)) 0

/-- That a cell is reached may be used again and again. -/
instance Rch_persistent (d : Dev nD) : BI.Persistent (Rch (F := F) d) := by unfold Rch; infer_instance

/-- Each of a device's own cells is reached. -/
theorem rch_of (d : Dev nD) (s : SemLoc sig) (h : ∃ k, s = osem k) : Rch (F := F) d ⊢ reached ER (cell d s) 0 := by
  obtain ⟨k, rfl⟩ := h
  unfold Rch
  exact bigSep_elim (Finset.mem_univ k)

/-- The right to make device `d`'s payment to a cell. -/
abbrev tok (e : Dev nD) (s : SemLoc sig) (d : Dev nD) : sProp (MM F) := dutyTok ER (cell e s) 0 d
/-- A transfer's amount credited to a cell. -/
abbrev crd (d : Dev nD) (s : SemLoc sig) : sProp (MM F) := cred (tallyAt (cell d s) () Nc)
/-- A cell's owner stands at round `n`. -/
abbrev pos (d : Dev nD) (s : SemLoc sig) (n : ℕ) : sProp (MM F) := atPos ER (cell d s) n ∅ 0

/-- The places handed to a peer with the signal. -/
theorem barPay_intro (d p : Dev nD) (f8 : Vec F S8x2x64x256 .bf16) (f10 : Vec F S512x256 .bf16) :
    Rch d ∗ (pKv d p 0 f8 ∗ pKv d p 1 f8) ∗ pCtx d fullShare p f10 ⊢ barPay d p := by
  unfold barPay
  iintro ⟨#HR, ⟨H0, H1⟩, Hc⟩
  isplitl [H0]; · iexists f8; iexact H0
  isplitl [H1]; · iexists f8; iexact H1
  isplitl [Hc]; · iexists f10; iexact Hc
  isplitr; · iapply (rch_of d _ (osem_r1 p 0)); iexact HR
  isplitr; · iapply (rch_of d _ (osem_r1 p 1)); iexact HR
  iapply (rch_of d _ (osem_r2 p)); iexact HR

/-- The seven signals. -/
theorem wp_signals (K : GSem nD τ sig → ℕ) (d : Dev nD) (f8 : Vec F S8x2x64x256 .bf16) (f10 : Vec F S512x256 .bf16) (Q : PUnit → sProp (MM F)) :
    (bigSep Finset.univ fun r => iprop((tok (peer d r) barC d ∗ reached ER (cell (peer d r) barC) 0)
        ∗ (pKv d (peer d r) 0 f8 ∗ pKv d (peer d r) 1 f8) ∗ pCtx d fullShare (peer d r) f10))
      ∗ (Inv A K ∗ Rch d ∗ Ow d (oB d 0)) ∗ (Ow d (oK d 0) -∗ Q ⟨⟩)
      ⊢ WP d (each fun r => semSignalWord (sigDev d r) barS 1#32) Q := by
  iintro ⟨HB, HR, Hk⟩
  iapply (wp_each d (fun r => semSignalWord (sigDev d r) barS 1#32) _ (fun _ => iprop(emp)) (fun n => iprop(Inv A K ∗ Rch d ∗ Ow d (oB d n))) ?step Q)
  rotate_left
  isplitl [HB]; · iexact HB
  isplitl [HR]; · iexact HR
  rw [oB_seven]
  iintro ⟨-, -, -, HO⟩
  iapply Hk
  iexact HO
  case step =>
    intro r Q
    iintro ⟨⟨⟨Ht, Hr⟩, Hp⟩, ⟨#HI, #Hc, HO⟩, Hk⟩
    iapply (wp_sig A K d r Q)
    isplitr; · iexact HI
    isplitl [HO]; · iexact HO
    isplitl [Ht]; · iexact Ht
    isplitl [Hp]
    · iapply (barPay_intro d (peer d r) f8 f10)
      isplitr; · iexact Hc
      iexact Hp
    isplitl [Hr]; · iexact Hr
    iintro HO
    iapply Hk
    isplitr; · iempintro
    isplitr; · iexact HI
    isplitr; · iexact Hc
    iexact HO

/-- The seven K blocks laid flat and sent. -/
theorem wp_sendKs (K : GSem nD τ sig → ℕ) (d : Dev nD) (f6 : Vec F S512x256 .bf16) (Q : PUnit → sProp (MM F)) :
    (bigSep Finset.univ fun r => iprop(pFlat d 0 (peer d r) f6 ∗ tok d (s1C 0 r) d ∗ tok (peer d r) (r1C d 0) d
        ∗ (∃ f, pKv (peer d r) d 0 f) ∗ reached ER (cell (peer d r) (r1C d 0)) 0))
      ∗ (Inv A K ∗ Rch d ∗ (at_ X2 d ↦[Finset.univ]{fullShare} A.kv d 0) ∗ Ow d (oK d 0))
      ∗ ((bigSep Finset.univ fun r => crd d (s1C 0 r)) ∗ (at_ X2 d ↦[Finset.univ]{fullShare} A.kv d 0) ∗ Ow d (oV d 0) -∗ Q ⟨⟩)
      ⊢ WP d (each fun r => do
          relay X2 X6 hX6 d r
          sendKV X6 hX6 d (kDev d r) r (kIx r) (k0_off20 d) (k0_off20_inb d) (k0_off21 d) (k0_off21_inb d) (k0_off21_wordsbf16 d)) Q := by
  iintro ⟨HB, HR, Hk⟩
  iapply (wp_each d _ _ (fun r => crd d (s1C 0 r))
    (fun n => iprop(Inv A K ∗ Rch d ∗ (at_ X2 d ↦[Finset.univ]{fullShare} A.kv d 0) ∗ Ow d (oK d n))) ?step Q)
  rotate_left
  isplitl [HB]; · iexact HB
  isplitl [HR]; · iexact HR
  rw [oK_seven]
  iintro ⟨HC, -, -, HX, HO⟩
  iapply Hk
  isplitl [HC]; · iexact HC
  isplitl [HX]; · iexact HX
  iexact HO
  case step =>
    intro r Q
    iintro ⟨⟨Hf, Ht₁, Ht₂, ⟨%f, Hd⟩, Hr⟩, ⟨#HI, #Hc, HX, HO⟩, Hk⟩
    iapply (wp_seq d)
    iapply (wp_relayK A d r f6)
    isplitl [HX]; · iexact HX
    isplitl [Hf]; · iexact Hf
    iintro ⟨HX, Hf⟩
    iapply (wp_sendK A K d r f Q)
    isplitr; · iexact HI
    isplitl [HO]; · iexact HO
    isplitl [Hf]; · iexact Hf
    isplitl [Hd]; · iexact Hd
    isplitl [Ht₁]; · iexact Ht₁
    isplitr; · iapply (rch_of d _ (osem_s1 0 r)); iexact Hc
    isplitl [Ht₂]; · iexact Ht₂
    isplitl [Hr]; · iexact Hr
    iintro ⟨Hcr, HO⟩
    iapply Hk
    isplitl [Hcr]; · iexact Hcr
    isplitr; · iexact HI
    isplitr; · iexact Hc
    isplitl [HX]; · iexact HX
    iexact HO

/-- The seven V blocks laid flat and sent. -/
theorem wp_sendVs (K : GSem nD τ sig → ℕ) (d : Dev nD) (f7 : Vec F S512x256 .bf16) (Q : PUnit → sProp (MM F)) :
    (bigSep Finset.univ fun r => iprop(pFlat d 1 (peer d r) f7 ∗ tok d (s1C 1 r) d ∗ tok (peer d r) (r1C d 1) d
        ∗ (∃ f, pKv (peer d r) d 1 f) ∗ reached ER (cell (peer d r) (r1C d 1)) 0))
      ∗ (Inv A K ∗ Rch d ∗ (at_ X3 d ↦[Finset.univ]{fullShare} A.kv d 1) ∗ Ow d (oV d 0))
      ∗ ((bigSep Finset.univ fun r => crd d (s1C 1 r)) ∗ (at_ X3 d ↦[Finset.univ]{fullShare} A.kv d 1) ∗ Ow d (oC d 0) -∗ Q ⟨⟩)
      ⊢ WP d (each fun r => do
          relay X3 X7 hX7 d r
          sendKV X7 hX7 d (vDev d r) r (vIx r) (k0_off23 d) (k0_off23_inb d) (k0_off24 d) (k0_off24_inb d) (k0_off24_wordsbf16 d)) Q := by
  iintro ⟨HB, HR, Hk⟩
  iapply (wp_each d _ _ (fun r => crd d (s1C 1 r))
    (fun n => iprop(Inv A K ∗ Rch d ∗ (at_ X3 d ↦[Finset.univ]{fullShare} A.kv d 1) ∗ Ow d (oV d n))) ?step Q)
  rotate_left
  isplitl [HB]; · iexact HB
  isplitl [HR]; · iexact HR
  rw [oV_seven]
  iintro ⟨HC, -, -, HX, HO⟩
  iapply Hk
  isplitl [HC]; · iexact HC
  isplitl [HX]; · iexact HX
  iexact HO
  case step =>
    intro r Q
    iintro ⟨⟨Hf, Ht₁, Ht₂, ⟨%f, Hd⟩, Hr⟩, ⟨#HI, #Hc, HX, HO⟩, Hk⟩
    iapply (wp_seq d)
    iapply (wp_relayV A d r f7)
    isplitl [HX]; · iexact HX
    isplitl [Hf]; · iexact Hf
    iintro ⟨HX, Hf⟩
    iapply (wp_sendV A K d r f Q)
    isplitr; · iexact HI
    isplitl [HO]; · iexact HO
    isplitl [Hf]; · iexact Hf
    isplitl [Hd]; · iexact Hd
    isplitl [Ht₁]; · iexact Ht₁
    isplitr; · iapply (rch_of d _ (osem_s1 1 r)); iexact Hc
    isplitl [Ht₂]; · iexact Ht₂
    isplitl [Hr]; · iexact Hr
    iintro ⟨Hcr, HO⟩
    iapply Hk
    isplitl [Hcr]; · iexact Hcr
    isplitr; · iexact HI
    isplitr; · iexact Hc
    isplitl [HX]; · iexact HX
    iexact HO

/-- What the first part starts from, beside the invariants. -/
def preA (d : Dev nD) : sProp (MM F) :=
  iprop(Ow d (oB d 0) ∗ (at_ X2 d ↦[Finset.univ]{fullShare} A.kv d 0) ∗ (at_ X3 d ↦[Finset.univ]{fullShare} A.kv d 1)
    ∗ (∃ f, at_ X6 d ↦[Finset.univ]{fullShare} f) ∗ (∃ f, at_ X7 d ↦[Finset.univ]{fullShare} f)
    ∗ (∃ f, at_ X8 d ↦[Finset.univ]{fullShare} f) ∗ (∃ f, at_ X10 d ↦[Finset.univ]{fullShare} f)
    ∗ (bigSep Finset.univ fun r => iprop(tok (peer d r) barC d ∗ reached ER (cell (peer d r) barC) 0))
    ∗ (bigSep Finset.univ fun r => tok d (s1C 0 r) d) ∗ (bigSep Finset.univ fun r => tok (peer d r) (r1C d 0) d)
    ∗ (bigSep Finset.univ fun r => tok d (s1C 1 r) d) ∗ (bigSep Finset.univ fun r => tok (peer d r) (r1C d 1) d)
    ∗ cred (tallyAt (cell d barC) () 7) ∗ pos d barC 0)

/-- What it ends with. -/
def postA (d : Dev nD) : sProp (MM F) :=
  iprop(Ow d (oC d 0) ∗ (at_ X2 d ↦[Finset.univ]{fullShare} A.kv d 0) ∗ (at_ X3 d ↦[Finset.univ]{fullShare} A.kv d 1)
    ∗ pFlat d 0 d (flat (A.kv d 0)) ∗ pFlat d 1 d (flat (A.kv d 1)) ∗ (pKv d d 0 (kvC A d) ∗ pKv d d 1 (kvC A d))
    ∗ (∃ f, pCtx d fullShare d f)
    ∗ (bigSep Finset.univ fun r => iprop(∃ f, pCtx (peer d r) fullShare d f)) ∗ (bigSep Finset.univ fun r => reached ER (cell (peer d r) (r2C d)) 0)
    ∗ (bigSep Finset.univ fun r => crd d (s1C 0 r)) ∗ (bigSep Finset.univ fun r => crd d (s1C 1 r)) ∗ pos d barC 1)

/-- The first part. -/
theorem wp_phaseA (K : GSem nD τ sig → ℕ) (d : Dev nD) (Q : PUnit → sProp (MM F)) :
    Inv A K ∗ levAts L lv ∗ Rch d ∗ preA A d ∗ (postA A d -∗ Q ⟨⟩) ⊢ WP d (phaseA d) Q := by
  unfold preA postA phaseA
  iintro ⟨#HI, #Hl, #HC, ⟨HO, HX2, HX3, ⟨%f6, H6⟩, ⟨%f7, H7⟩, ⟨%f8, H8⟩, ⟨%f10, H10⟩, HB, Hs0, Hr0, Hs1, Hr1, Hcb, Hpb⟩, Hk⟩
  ihave H6 := (Entails.of_eq ((rows_cut6 d f6).trans (by_peer d fun b => pFlat d 0 b f6))) $$ H6
  ihave H7 := (Entails.of_eq ((rows_cut7 d f7).trans (by_peer d fun b => pFlat d 1 b f7))) $$ H7
  ihave H8 := (Entails.of_eq ((kv_cut d f8).trans (by_peer d fun o => iprop(pKv d o 0 f8 ∗ pKv d o 1 f8)))) $$ H8
  ihave H10 := (Entails.of_eq ((rows_cut10 d f10).trans (by_peer d fun b => pCtx d fullShare b f10))) $$ H10
  icases H6 with ⟨H6, G6⟩
  icases H7 with ⟨H7, G7⟩
  icases H8 with ⟨⟨H80, H81⟩, G8⟩
  icases H10 with ⟨H10, G10⟩
  iapply (wp_seq d)
  iapply (wp_signals A K d f8 f10)
  isplitl [HB G8 G10]
  · simp only [bigSep_sep']
    isplitl [HB]; · iexact HB
    isplitl [G8]; · iexact G8
    iexact G10
  isplitl [HO]
  · isplitr; · iexact HI
    isplitr; · iexact HC
    iexact HO
  iintro HO
  iapply (wp_seq d)
  iapply (wp_ownK A d f6)
  isplitl [HX2]; · iexact HX2
  isplitl [H6]; · iexact H6
  iintro ⟨HX2, H6⟩
  iapply (wp_seq d)
  iapply (wp_ownV A d f7)
  isplitl [HX3]; · iexact HX3
  isplitl [H7]; · iexact H7
  iintro ⟨HX3, H7⟩
  iapply (wp_seq d)
  iapply (wp_keepK A d f8)
  isplitl [H6]; · iexact H6
  isplitl [H80]; · iexact H80
  iintro ⟨H6, H80⟩
  iapply (wp_seq d)
  iapply (wp_keepV A d f8)
  isplitl [H7]; · iexact H7
  isplitl [H81]; · iexact H81
  iintro ⟨H7, H81⟩
  iapply (wp_seq d)
  iapply (wp_bar A K d)
  isplitr; · iexact HI
  isplitr; · iexact Hl
  isplitl [HO]; · iexact HO
  isplitl [Hcb]; · iexact Hcb
  isplitl [Hpb]; · iexact Hpb
  iintro ⟨HO, Hpb, HP⟩
  ihave HP := (Entails.of_eq (show (bigSep Finset.univ fun r => barPay (F := F) (peer d r) d)
    = iprop((bigSep Finset.univ fun r => iprop(∃ f, pKv (peer d r) d 0 f)) ∗ (bigSep Finset.univ fun r => iprop(∃ f, pKv (peer d r) d 1 f))
      ∗ (bigSep Finset.univ fun r => iprop(∃ f, pCtx (peer d r) fullShare d f))
      ∗ (bigSep Finset.univ fun r => reached ER (cell (peer d r) (r1C d 0)) 0) ∗ (bigSep Finset.univ fun r => reached ER (cell (peer d r) (r1C d 1)) 0)
      ∗ (bigSep Finset.univ fun r => reached ER (cell (peer d r) (r2C d)) 0)) by unfold barPay; simp only [bigSep_sep'])) $$ HP
  icases HP with ⟨P0, P1, Pc, R0, R1, Rc⟩
  iapply (wp_seq d)
  iapply (wp_sendKs A K d f6)
  isplitl [G6 Hs0 Hr0 P0 R0]
  · simp only [bigSep_sep']
    isplitl [G6]; · iexact G6
    isplitl [Hs0]; · iexact Hs0
    isplitl [Hr0]; · iexact Hr0
    isplitl [P0]; · iexact P0
    iexact R0
  isplitl [HX2 HO]
  · isplitr; · iexact HI
    isplitr; · iexact HC
    isplitl [HX2]; · iexact HX2
    iexact HO
  iintro ⟨C0, HX2, HO⟩
  iapply (wp_sendVs A K d f7)
  isplitl [G7 Hs1 Hr1 P1 R1]
  · simp only [bigSep_sep']
    isplitl [G7]; · iexact G7
    isplitl [Hs1]; · iexact Hs1
    isplitl [Hr1]; · iexact Hr1
    isplitl [P1]; · iexact P1
    iexact R1
  isplitl [HX3 HO]
  · isplitr; · iexact HI
    isplitr; · iexact HC
    isplitl [HX3]; · iexact HX3
    iexact HO
  iintro ⟨C1, HX3, HO⟩
  iapply Hk
  isplitl [HO]; · iexact HO
  isplitl [HX2]; · iexact HX2
  isplitl [HX3]; · iexact HX3
  isplitl [H6]; · iexact H6
  isplitl [H7]; · iexact H7
  isplitl [H80 H81]
  · isplitl [H80]; · iexact H80
    iexact H81
  isplitl [H10]; · iexists f10; iexact H10
  isplitl [Pc]; · iexact Pc
  isplitl [Rc]; · iexact Rc
  isplitl [C0]; · iexact C0
  isplitl [C1]; · iexact C1
  iexact Hpb

end Cert.KernelIdeal.P

end
-- ==== Proof.PhaseB.lean ====
/-
  The second part of the body: the query rows and the scores, each block awaited first.
-/
module

public import proofs.«01_k».proof.Proof.PhaseA

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-- The query rows, read from the activations and the weights. -/
theorem read_q (d : Dev nD) :
    k0_pay79 ((X0.access (Rect.unit (s := S512x512) (k0_off25 d) S64x512.size (k0_off25_inb d))).read (Elt F) (A.x d))
      ((X1.access (Rect.unit (s := S512x256) ![0, 0] S512x256.size inb_S512x256_S512x256_0_0)).read (Elt F) (A.wq d)) = qC A d := by
  have hw : (X1.access (Rect.unit (s := S512x256) ![0, 0] S512x256.size inb_S512x256_S512x256_0_0)).read (Elt F) (A.wq d) = A.wq d := by
    refine funext fun i => congrArg (A.wq d) (funext fun a => Fin.ext ?_)
    fin_cases a
    · show 0 + 1 * (i 0).val = (i 0).val
      omega
    · show 0 + 1 * (i 1).val = (i 1).val
      omega
  rw [hw]
  have h := k0_off25_eq d
  generalize k0_off25_inb d = i
  revert i
  rw [h]
  intro i
  rfl

/-- The seven K blocks awaited, each scored as it lands. -/
theorem wp_waitKs (K : GSem nD τ sig → ℕ) (d : Dev nD) (f9 : Vec F S4x8x64x64 .f32) (Q : PUnit → sProp (MM F)) :
    (bigSep Finset.univ fun r => iprop(crd d (r1C (orig d r) 0) ∗ pos d (r1C (orig d r) 0) 0 ∗ pSc d (orig d r) f9))
      ∗ (Inv A K ∗ levAts L lv ∗ Ow d (oC d 0))
      ∗ ((bigSep Finset.univ fun r => iprop(pos d (r1C (orig d r) 0) 1 ∗ pKv d (orig d r) 0 (kvC A d) ∗ pSc d (orig d r) (scC A d)))
          ∗ (Inv A K ∗ levAts L lv ∗ Ow d (oC d 0)) -∗ Q ⟨⟩)
      ⊢ WP d (each fun r => do
          waitKV (k0_off34 d (tw r)) (k0_off34_inb d r) (k0_off35 d (tw r)) (k0_off35_inb d r) (k0_off35_wordsbf16 d r)
          scores (qC A d) d r) Q := by
  refine wp_each d _ _ _ (fun _ => iprop(Inv A K ∗ levAts L lv ∗ Ow d (oC d 0))) ?_ Q
  intro r Q
  iintro ⟨⟨Hc, Hp, Hs⟩, ⟨#HI, #Hl, HO⟩, Hk⟩
  iapply (wp_seq d)
  iapply (wp_waitKV A K d (orig d r) (orig_ne d r) 0 _ _ (k0_off34_eq d r) _ _ _)
  isplitr; · iexact HI
  isplitr; · iexact Hl
  isplitl [HO]; · iexact HO
  isplitl [Hc]; · iexact Hc
  isplitl [Hp]; · iexact Hp
  iintro ⟨HO, Hp, Hv⟩
  iapply (wp_scores A d r f9)
  isplitl [Hv]; · iexact Hv
  isplitl [Hs]; · iexact Hs
  iintro ⟨Hv, Hs⟩
  iapply Hk
  isplitl [Hp Hv Hs]
  · isplitl [Hp]; · iexact Hp
    isplitl [Hv]; · iexact Hv
    iexact Hs
  isplitr; · iexact HI
  isplitr; · iexact Hl
  iexact HO

/-- The seven V blocks awaited. -/
theorem wp_waitVs (K : GSem nD τ sig → ℕ) (d : Dev nD) (Q : PUnit → sProp (MM F)) :
    (bigSep Finset.univ fun r => iprop(crd d (r1C (orig d r) 1) ∗ pos d (r1C (orig d r) 1) 0))
      ∗ (Inv A K ∗ levAts L lv ∗ Ow d (oC d 0))
      ∗ ((bigSep Finset.univ fun r => iprop(pos d (r1C (orig d r) 1) 1 ∗ pKv d (orig d r) 1 (kvC A d)))
          ∗ (Inv A K ∗ levAts L lv ∗ Ow d (oC d 0)) -∗ Q ⟨⟩)
      ⊢ WP d (each fun r =>
          waitKV (k0_off44 d (tw r)) (k0_off44_inb d r) (k0_off45 d (tw r)) (k0_off45_inb d r) (k0_off45_wordsbf16 d r)) Q := by
  refine wp_each d _ _ _ (fun _ => iprop(Inv A K ∗ levAts L lv ∗ Ow d (oC d 0))) ?_ Q
  intro r Q
  iintro ⟨⟨Hc, Hp⟩, ⟨#HI, #Hl, HO⟩, Hk⟩
  iapply (wp_waitKV A K d (orig d r) (orig_ne d r) 1 _ _ (k0_off44_eq d r) _ _ _)
  isplitr; · iexact HI
  isplitr; · iexact Hl
  isplitl [HO]; · iexact HO
  isplitl [Hc]; · iexact Hc
  isplitl [Hp]; · iexact Hp
  iintro ⟨HO, Hp, Hv⟩
  iapply Hk
  isplitl [Hp Hv]
  · isplitl [Hp]; · iexact Hp
    iexact Hv
  isplitr; · iexact HI
  isplitr; · iexact Hl
  iexact HO

/-- What the second part starts from, beside the invariants. -/
def preB (d : Dev nD) : sProp (MM F) :=
  iprop(Ow d (oC d 0) ∗ (at_ X0 d ↦[Finset.univ]{fullShare} A.x d) ∗ (at_ X1 d ↦[Finset.univ]{fullShare} A.wq d)
    ∗ (∃ f, at_ X9 d ↦[Finset.univ]{fullShare} f) ∗ (pKv d d 0 (kvC A d) ∗ pKv d d 1 (kvC A d))
    ∗ (bigSep Finset.univ fun r => crd d (r1C (orig d r) 0)) ∗ (bigSep Finset.univ fun r => crd d (r1C (orig d r) 1))
    ∗ (bigSep Finset.univ fun r => pos d (r1C (orig d r) 0) 0) ∗ (bigSep Finset.univ fun r => pos d (r1C (orig d r) 1) 0))

/-- What it ends with. -/
def postB (d : Dev nD) : sProp (MM F) :=
  iprop(Ow d (oC d 0) ∗ (at_ X0 d ↦[Finset.univ]{fullShare} A.x d) ∗ (at_ X1 d ↦[Finset.univ]{fullShare} A.wq d)
    ∗ (at_ X8 d ↦[Finset.univ]{fullShare} kvC A d) ∗ (at_ X9 d ↦[Finset.univ]{fullShare} scC A d)
    ∗ (bigSep Finset.univ fun r => pos d (r1C (orig d r) 0) 1) ∗ (bigSep Finset.univ fun r => pos d (r1C (orig d r) 1) 1))

/-- The second part. -/
theorem wp_phaseB (K : GSem nD τ sig → ℕ) (d : Dev nD) (Q : PUnit → sProp (MM F)) :
    Inv A K ∗ levAts L lv ∗ preB A d ∗ (postB A d -∗ Q ⟨⟩) ⊢ WP d (phaseB d) Q := by
  unfold preB postB phaseB
  iintro ⟨#HI, #Hl, ⟨HO, HX0, HX1, ⟨%f9, H9⟩, ⟨H80, H81⟩, C0, C1, P0, P1⟩, Hk⟩
  ihave H9 := (Entails.of_eq ((sc_cut d f9).trans (by_orig d fun o => pSc d o f9))) $$ H9
  icases H9 with ⟨H9, G9⟩
  iapply (wp_seq d)
  iapply (wp_ld X0 d _ (Finset.subset_univ _))
  isplitl [HX0]; · iexact HX0
  iintro HX0
  iapply (wp_seq d)
  iapply (wp_ld X1 d _ (Finset.subset_univ _))
  isplitl [HX1]; · iexact HX1
  iintro HX1
  rw [read_q]
  iapply (wp_seq d)
  iapply (wp_ownScores A d f9)
  isplitl [H80]; · iexact H80
  isplitl [H9]; · iexact H9
  iintro ⟨H80, H9⟩
  iapply (wp_seq d)
  iapply (wp_waitKs A K d f9)
  isplitl [C0 P0 G9]
  · simp only [bigSep_sep']
    isplitl [C0]; · iexact C0
    isplitl [P0]; · iexact P0
    iexact G9
  isplitl [HO]
  · isplitr; · iexact HI
    isplitr; · iexact Hl
    iexact HO
  simp only [bigSep_sep']
  iintro ⟨⟨P0, G8, G9⟩, -, -, HO⟩
  iapply (wp_waitVs A K d)
  isplitl [C1 P1]
  · simp only [bigSep_sep']
    isplitl [C1]; · iexact C1
    iexact P1
  isplitl [HO]
  · isplitr; · iexact HI
    isplitr; · iexact Hl
    iexact HO
  simp only [bigSep_sep']
  iintro ⟨⟨P1, G8'⟩, -, -, HO⟩
  rw [sc_cut d, by_orig d fun o => pSc d o (scC A d), kv_cut d, by_orig d fun o => iprop(pKv d o 0 (kvC A d) ∗ pKv d o 1 (kvC A d))]
  simp only [bigSep_sep']
  iapply Hk
  isplitl [HO]; · iexact HO
  isplitl [HX0]; · iexact HX0
  isplitl [HX1]; · iexact HX1
  isplitl [H80 H81 G8 G8']
  · isplitl [H80 H81]
    · isplitl [H80]; · iexact H80
      iexact H81
    isplitl [G8]; · iexact G8
    iexact G8'
  isplitl [H9 G9]
  · isplitl [H9]; · iexact H9
    iexact G9
  isplitl [P0]; · iexact P0
  iexact P1

end Cert.KernelIdeal.P

end
-- ==== Proof.PhaseC.lean ====
/-
  The third part of the body: the context rows computed, sent and awaited, and every departure awaited; and the last part, the product.
-/
module

public import proofs.«01_k».proof.Proof.PhaseB

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-! ## The loans of the context rows -/

/-- A share and its two halves. -/
theorem half (ℓ : Loc nD τ sig) (S : Finset (Idx ℓ)) (q : PosShare TreeShare) (f : Buf (Elt F) ℓ) :
    (ℓ ↦[S]{q} f : sProp (MM F)) ⊣⊢ iprop((ℓ ↦[S]{q.left} f) ∗ ℓ ↦[S]{q.right} f) :=
  pointsTo_share (by rw [PosShare.left_op_right]; exact Part.mem_some _)

/-- The context rows as seven loans and the rest. -/
theorem loans (d : Dev nD) (f : Vec F S512x256 .bf16) :
    pCtx d fullShare d f ⊣⊢ (iprop((bigSep Finset.univ fun r : Fin 7 => pCtx d (lend r.val fullShare) d f) ∗ pCtx d (keepSh 7 fullShare) d f) : sProp (MM F)) := by
  rw [bigSep_univ_eq_bigSepL [0, 1, 2, 3, 4, 5, 6] (by decide) (by decide)]
  have h : ∀ q : PosShare TreeShare, pCtx d q d f ⊣⊢ (iprop(pCtx d q.left d f ∗ pCtx d q.right d f) : sProp (MM F)) :=
    fun q => half (at_ X10 d) (rowP d) q f
  show pCtx d fullShare d f ⊣⊢ (iprop((pCtx d (lend 0 fullShare) d f ∗ pCtx d (lend 1 fullShare) d f ∗ pCtx d (lend 2 fullShare) d f
    ∗ pCtx d (lend 3 fullShare) d f ∗ pCtx d (lend 4 fullShare) d f ∗ pCtx d (lend 5 fullShare) d f ∗ pCtx d (lend 6 fullShare) d f)
    ∗ pCtx d (keepSh 7 fullShare) d f) : sProp (MM F))
  constructor
  · iintro H
    ihave H := (h _).1 $$ H
    icases H with ⟨H0, H⟩
    ihave H := (h _).1 $$ H
    icases H with ⟨H1, H⟩
    ihave H := (h _).1 $$ H
    icases H with ⟨H2, H⟩
    ihave H := (h _).1 $$ H
    icases H with ⟨H3, H⟩
    ihave H := (h _).1 $$ H
    icases H with ⟨H4, H⟩
    ihave H := (h _).1 $$ H
    icases H with ⟨H5, H⟩
    ihave H := (h _).1 $$ H
    icases H with ⟨H6, H⟩
    isplitr [H]
    · isplitl [H0]; · iexact H0
      isplitl [H1]; · iexact H1
      isplitl [H2]; · iexact H2
      isplitl [H3]; · iexact H3
      isplitl [H4]; · iexact H4
      isplitl [H5]; · iexact H5
      iexact H6
    iexact H
  · iintro ⟨⟨H0, H1, H2, H3, H4, H5, H6⟩, H⟩
    iapply (h fullShare).2
    isplitl [H0]; · iexact H0
    iapply (h _).2
    isplitl [H1]; · iexact H1
    iapply (h _).2
    isplitl [H2]; · iexact H2
    iapply (h _).2
    isplitl [H3]; · iexact H3
    iapply (h _).2
    isplitl [H4]; · iexact H4
    iapply (h _).2
    isplitl [H5]; · iexact H5
    iapply (h _).2
    isplitl [H6]; · iexact H6
    iexact H

/-! ## The loops -/

/-- The seven context copies. -/
theorem wp_sendCs (K : GSem nD τ sig → ℕ) (d : Dev nD) (Q : PUnit → sProp (MM F)) :
    (bigSep Finset.univ fun r => iprop(pCtx d (lend r.val fullShare) d (ctxC A) ∗ (∃ f, pCtx (peer d r) fullShare d f) ∗ tok d (s2C r) d
        ∗ tok (peer d r) (r2C d) d ∗ reached ER (cell (peer d r) (r2C d)) 0))
      ∗ (Inv A K ∗ Rch d ∗ Ow d (oC d 0))
      ∗ ((bigSep Finset.univ fun r => crd d (s2C r)) ∗ (Inv A K ∗ Rch d ∗ Ow d (oC d 7)) -∗ Q ⟨⟩)
      ⊢ WP d (each fun r => sendC d (cDev d r) r) Q := by
  refine wp_each d _ _ _ (fun n => iprop(Inv A K ∗ Rch d ∗ Ow d (oC d n))) ?_ Q
  intro r Q
  iintro ⟨⟨Hf, ⟨%f, Hd⟩, Ht₁, Ht₂, Hr⟩, ⟨#HI, #Hc, HO⟩, Hk⟩
  iapply (wp_sendC A K d r f Q)
  isplitr; · iexact HI
  isplitl [HO]; · iexact HO
  isplitl [Hf]; · iexact Hf
  isplitl [Hd]; · iexact Hd
  isplitl [Ht₁]; · iexact Ht₁
  isplitr; · iapply (rch_of d _ (osem_s2 r)); iexact Hc
  isplitl [Ht₂]; · iexact Ht₂
  isplitl [Hr]; · iexact Hr
  iintro ⟨Hcr, HO⟩
  iapply Hk
  isplitl [Hcr]; · iexact Hcr
  isplitr; · iexact HI
  isplitr; · iexact Hc
  iexact HO

/-- Seven waits, each on one cell: what every wait of the third part does. -/
theorem wp_waits (K : GSem nD τ sig → ℕ) (d : Dev nD) (f : Fin 7 → Pg F PUnit) (s : Fin 7 → SemLoc sig) (P : Fin 7 → sProp (MM F))
    (h : ∀ r (Q : PUnit → sProp (MM F)), Inv A K ∗ levAts L lv ∗ Ow d 0 ∗ cred (tallyAt (cell d (s r)) () Nc) ∗ atPos ER (cell d (s r)) 0 ∅ 0
      ∗ ((Ow d 0 ∗ atPos ER (cell d (s r)) 1 ∅ 0 ∗ P r) -∗ Q ⟨⟩) ⊢ WP d (f r) Q) (Q : PUnit → sProp (MM F)) :
    (bigSep Finset.univ fun r => iprop(crd d (s r) ∗ pos d (s r) 0)) ∗ (Inv A K ∗ levAts L lv ∗ Ow d 0)
      ∗ ((bigSep Finset.univ fun r => iprop(pos d (s r) 1 ∗ P r)) ∗ (Inv A K ∗ levAts L lv ∗ Ow d 0) -∗ Q ⟨⟩)
      ⊢ WP d (each f) Q := by
  refine wp_each d _ _ _ (fun _ => iprop(Inv A K ∗ levAts L lv ∗ Ow d 0)) ?_ Q
  intro r Q
  iintro ⟨⟨Hc, Hp⟩, ⟨#HI, #Hl, HO⟩, Hk⟩
  iapply (h r Q)
  isplitr; · iexact HI
  isplitr; · iexact Hl
  isplitl [HO]; · iexact HO
  isplitl [Hc]; · iexact Hc
  isplitl [Hp]; · iexact Hp
  iintro ⟨HO, Hp, Hv⟩
  iapply Hk
  isplitl [Hp Hv]
  · isplitl [Hp]; · iexact Hp
    iexact Hv
  isplitr; · iexact HI
  isplitr; · iexact Hl
  iexact HO

/-- What the third part starts from, beside the invariants. -/
def preC (d : Dev nD) : sProp (MM F) :=
  iprop(Ow d (oC d 0) ∗ (at_ X8 d ↦[Finset.univ]{fullShare} kvC A d) ∗ (at_ X9 d ↦[Finset.univ]{fullShare} scC A d)
    ∗ (∃ f, pCtx d fullShare d f) ∗ pFlat d 0 d (flat (A.kv d 0)) ∗ pFlat d 1 d (flat (A.kv d 1))
    ∗ (bigSep Finset.univ fun r => iprop(∃ f, pCtx (peer d r) fullShare d f)) ∗ (bigSep Finset.univ fun r => reached ER (cell (peer d r) (r2C d)) 0)
    ∗ (bigSep Finset.univ fun r => tok d (s2C r) d) ∗ (bigSep Finset.univ fun r => tok (peer d r) (r2C d) d)
    ∗ (bigSep Finset.univ fun r => crd d (r2C (peer d r))) ∗ (bigSep Finset.univ fun r => pos d (r2C (peer d r)) 0)
    ∗ (bigSep Finset.univ fun r => crd d (s1C 0 r)) ∗ (bigSep Finset.univ fun r => pos d (s1C 0 r) 0)
    ∗ (bigSep Finset.univ fun r => crd d (s1C 1 r)) ∗ (bigSep Finset.univ fun r => pos d (s1C 1 r) 0)
    ∗ (bigSep Finset.univ fun r => pos d (s2C r) 0))

/-- What it ends with. -/
def postC (d : Dev nD) : sProp (MM F) :=
  iprop(Ow d 0 ∗ (at_ X8 d ↦[Finset.univ]{fullShare} kvC A d) ∗ (at_ X9 d ↦[Finset.univ]{fullShare} scC A d)
    ∗ (at_ X6 d ↦[Finset.univ]{fullShare} flat (A.kv d 0)) ∗ (at_ X7 d ↦[Finset.univ]{fullShare} flat (A.kv d 1))
    ∗ (at_ X10 d ↦[Finset.univ]{fullShare} ctxC A)
    ∗ (bigSep Finset.univ fun r => pos d (r2C (peer d r)) 1) ∗ (bigSep Finset.univ fun r => pos d (s1C 0 r) 1)
    ∗ (bigSep Finset.univ fun r => pos d (s1C 1 r) 1) ∗ (bigSep Finset.univ fun r => pos d (s2C r) 1))

/-- The four heads of the context rows. -/
theorem wp_heads (d : Dev nD) (f : Vec F S512x256 .bf16) (k : Pg F PUnit) (Q : PUnit → sProp (MM F)) :
    (at_ X8 d ↦[Finset.univ]{fullShare} kvC A d) ∗ (at_ X9 d ↦[Finset.univ]{fullShare} scC A d) ∗ pCtx d fullShare d f
      ∗ ((at_ X8 d ↦[Finset.univ]{fullShare} kvC A d) ∗ (at_ X9 d ↦[Finset.univ]{fullShare} scC A d) ∗ pCtx d fullShare d (ctxC A) -∗ WP d k Q)
      ⊢ WP d (do
          attn 0 (k0_off2 d) (k0_off2_inb d) (k0_off2_packedbf16 d)
          attn 1 (k0_off4 d) (k0_off4_inb d) (k0_off4_packedbf16 d)
          attn 2 (k0_off6 d) (k0_off6_inb d) (k0_off6_packedbf16 d)
          attn 3 (k0_off8 d) (k0_off8_inb d) (k0_off8_packedbf16 d)
          k) Q := by
  rw [ctx_heads, ctx_heads, four, four]
  iintro ⟨H8, H9, ⟨H0, H1, H2, H3⟩, Hk⟩
  iapply (wp_seq d)
  iapply (wp_attn_at A d 0 _ _ (k0_off2_eq d) _ f)
  isplitl [H8]; · iexact H8
  isplitl [H9]; · iexact H9
  isplitl [H0]; · iexact H0
  iintro ⟨H8, H9, H0⟩
  iapply (wp_seq d)
  iapply (wp_attn_at A d 1 _ _ (k0_off4_eq d) _ f)
  isplitl [H8]; · iexact H8
  isplitl [H9]; · iexact H9
  isplitl [H1]; · iexact H1
  iintro ⟨H8, H9, H1⟩
  iapply (wp_seq d)
  iapply (wp_attn_at A d 2 _ _ (k0_off6_eq d) _ f)
  isplitl [H8]; · iexact H8
  isplitl [H9]; · iexact H9
  isplitl [H2]; · iexact H2
  iintro ⟨H8, H9, H2⟩
  iapply (wp_seq d)
  iapply (wp_attn_at A d 3 _ _ (k0_off8_eq d) _ f)
  isplitl [H8]; · iexact H8
  isplitl [H9]; · iexact H9
  isplitl [H3]; · iexact H3
  iintro ⟨H8, H9, H3⟩
  iapply Hk
  isplitl [H8]; · iexact H8
  isplitl [H9]; · iexact H9
  isplitl [H0]; · iexact H0
  isplitl [H1]; · iexact H1
  isplitl [H2]; · iexact H2
  iexact H3

/-- The third part. -/
theorem wp_phaseC (K : GSem nD τ sig → ℕ) (d : Dev nD) (Q : PUnit → sProp (MM F)) :
    Inv A K ∗ levAts L lv ∗ Rch d ∗ preC A d ∗ (postC A d -∗ Q ⟨⟩) ⊢ WP d (phaseC d) Q := by
  unfold preC postC phaseC
  iintro ⟨#HI, #Hl, #HC, ⟨HO, H8, H9, ⟨%f, H10⟩, H6, H7, Pc, Rc, T1, T2, Cr2, Pr2, Cs0, Ps0, Cs1, Ps1, Ps2⟩, Hk⟩
  iapply (wp_heads A d f)
  isplitl [H8]; · iexact H8
  isplitl [H9]; · iexact H9
  isplitl [H10]; · iexact H10
  iintro ⟨H8, H9, H10⟩
  ihave H10 := (loans d (ctxC A)).1 $$ H10
  icases H10 with ⟨Hl10, H10⟩
  iapply (wp_seq d)
  iapply (wp_sendCs A K d)
  isplitl [Hl10 Pc T1 T2 Rc]
  · simp only [bigSep_sep']
    isplitl [Hl10]; · iexact Hl10
    isplitl [Pc]; · iexact Pc
    isplitl [T1]; · iexact T1
    isplitl [T2]; · iexact T2
    iexact Rc
  isplitl [HO]
  · isplitr; · iexact HI
    isplitr; · iexact HC
    iexact HO
  rw [oC_seven]
  iintro ⟨Cs2, -, -, HO⟩
  iapply (wp_seq d)
  iapply (wp_waits A K d _ (fun r => r2C (peer d r)) _ (fun r => wp_waitC A K d r))
  isplitl [Cr2 Pr2]
  · simp only [bigSep_sep']
    isplitl [Cr2]; · iexact Cr2
    iexact Pr2
  isplitl [HO]
  · isplitr; · iexact HI
    isplitr; · iexact Hl
    iexact HO
  simp only [bigSep_sep']
  iintro ⟨⟨Pr2, G10⟩, -, -, HO⟩
  iapply (wp_seq d)
  iapply (wp_waits A K d _ (fun r => s1C 0 r) _ (fun r => wp_waitSent A K d 0 r X6 hX6 _ (s1S_k r) _ _ _))
  isplitl [Cs0 Ps0]
  · simp only [bigSep_sep']
    isplitl [Cs0]; · iexact Cs0
    iexact Ps0
  isplitl [HO]
  · isplitr; · iexact HI
    isplitr; · iexact Hl
    iexact HO
  simp only [bigSep_sep']
  iintro ⟨⟨Ps0, G6⟩, -, -, HO⟩
  iapply (wp_seq d)
  iapply (wp_waits A K d _ (fun r => s1C 1 r) _ (fun r => wp_waitSent A K d 1 r X7 hX7 _ (s1S_v r) _ _ _))
  isplitl [Cs1 Ps1]
  · simp only [bigSep_sep']
    isplitl [Cs1]; · iexact Cs1
    iexact Ps1
  isplitl [HO]
  · isplitr; · iexact HI
    isplitr; · iexact Hl
    iexact HO
  simp only [bigSep_sep']
  iintro ⟨⟨Ps1, G7⟩, -, -, HO⟩
  iapply (wp_waits A K d _ (fun r => s2C r) _ (fun r => wp_waitSentC A K d r))
  isplitl [Cs2 Ps2]
  · simp only [bigSep_sep']
    isplitl [Cs2]; · iexact Cs2
    iexact Ps2
  isplitl [HO]
  · isplitr; · iexact HI
    isplitr; · iexact Hl
    iexact HO
  simp only [bigSep_sep']
  iintro ⟨⟨Ps2, Gl⟩, -, -, HO⟩
  rw [rows_cut6 d, by_peer d fun b => pFlat d 0 b (flat (A.kv d 0)), rows_cut7 d, by_peer d fun b => pFlat d 1 b (flat (A.kv d 1)),
    rows_cut10 d, by_peer d fun b => pCtx d fullShare b (ctxC A)]
  iapply Hk
  isplitl [HO]; · iexact HO
  isplitl [H8]; · iexact H8
  isplitl [H9]; · iexact H9
  isplitl [H6 G6]
  · isplitl [H6]; · iexact H6
    iexact G6
  isplitl [H7 G7]
  · isplitl [H7]; · iexact H7
    iexact G7
  isplitl [H10 Gl G10]
  · isplitl [H10 Gl]
    · iapply (loans d (ctxC A)).2
      isplitl [Gl]; · iexact Gl
      iexact H10
    iexact G10
  isplitl [Pr2]; · iexact Pr2
  isplitl [Ps0]; · iexact Ps0
  isplitl [Ps1]; · iexact Ps1
  iexact Ps2

/-! ## The last part -/

/-- The product with the output weights. -/
theorem wp_phaseD (d : Dev nD) (f : Vec F S2x256x512 .bf16) (Q : PUnit → sProp (MM F)) :
    (at_ X10 d ↦[Finset.univ]{fullShare} ctxC A) ∗ (at_ X4 d ↦[Finset.univ]{fullShare} A.wo d) ∗ (at_ X5 d ↦[Finset.univ]{fullShare} f)
      ∗ ((at_ X10 d ↦[Finset.univ]{fullShare} ctxC A) ∗ (at_ X4 d ↦[Finset.univ]{fullShare} A.wo d) ∗ (at_ X5 d ↦[Finset.univ]{fullShare} outC A d) -∗ Q ⟨⟩)
      ⊢ WP d phaseD Q := by
  have hc : (X10.access (Rect.unit (s := S512x256) ![0, 0] S512x256.size inb_S512x256_S512x256_0_0)).read (Elt F) (ctxC A) = ctxC A := by
    refine funext fun i => congrArg (ctxC A) (funext fun a => Fin.ext ?_)
    fin_cases a
    · show 0 + 1 * (i 0).val = (i 0).val
      omega
    · show 0 + 1 * (i 1).val = (i 1).val
      omega
  have hw : (X4.access (Rect.unit (s := S256x512) ![0, 0] S256x512.size inb_S256x512_S256x512_0_0)).read (Elt F) (A.wo d) = A.wo d := by
    refine funext fun i => congrArg (A.wo d) (funext fun a => Fin.ext ?_)
    fin_cases a
    · show 0 + 1 * (i 0).val = (i 0).val
      omega
    · show 0 + 1 * (i 1).val = (i 1).val
      omega
  have ho : (X5.access (Rect.unit (s := S2x256x512) ![0, 0, 0] S2x256x512.size inb_S2x256x512_S2x256x512_0_0_0)).read (Elt F) (outC A d) = outC A d := by
    refine funext fun i => congrArg (outC A d) (funext fun a => Fin.ext ?_)
    fin_cases a
    · show 0 + 1 * (i 0).val = (i 0).val
      omega
    · show 0 + 1 * (i 1).val = (i 1).val
      omega
    · show 0 + 1 * (i 2).val = (i 2).val
      omega
  have hs : (X5.access (Rect.unit (s := S2x256x512) ![0, 0, 0] S2x256x512.size inb_S2x256x512_S2x256x512_0_0_0)).set = Finset.univ := by
    refine (View.set_slice_whole ..).trans (Finset.eq_univ_of_forall fun i => ?_)
    rw [Rect.mem_set_unit]
    have h0 : (i 0).val < 0 + 2 := (Nat.zero_add 2).symm ▸ (i 0).isLt
    have h1 : (i 1).val < 0 + 256 := (Nat.zero_add 256).symm ▸ (i 1).isLt
    have h2 : (i 2).val < 0 + 512 := (Nat.zero_add 512).symm ▸ (i 2).isLt
    intro a
    fin_cases a
    · exact ⟨Nat.zero_le _, h0⟩
    · exact ⟨Nat.zero_le _, h1⟩
    · exact ⟨Nat.zero_le _, h2⟩
  have he : ∀ g : Vec F S2x256x512 .bf16, (iprop(at_ X5 d ↦[Finset.univ]{fullShare} g) : sProp (MM F))
      = iprop(at_ X5 d ↦[(X5.access (Rect.unit (s := S2x256x512) ![0, 0, 0] S2x256x512.size inb_S2x256x512_S2x256x512_0_0_0)).set]{fullShare} g) :=
    fun g => by rw [hs]
  unfold phaseD
  iintro ⟨H10, H4, H5, Hk⟩
  iapply (wp_seq d)
  iapply (wp_ld X10 d _ (Finset.subset_univ _))
  isplitl [H10]; · iexact H10
  iintro H10
  rw [hc]
  iapply (wp_seq d)
  iapply (wp_ld X4 d _ (Finset.subset_univ _))
  isplitl [H4]; · iexact H4
  iintro H4
  rw [hw]
  iapply (wp_seq d)
  iapply (wp_ld X5 d _ (Finset.subset_univ _))
  isplitl [H5]; · iexact H5
  iintro H5
  ihave H5 := (Entails.of_eq (he f)) $$ H5
  iapply (wp_st X5 d _ (g := outC A d) ho)
  isplitl [H5]; · iexact H5
  iintro H5
  ihave H5 := (Entails.of_eq (he (outC A d)).symm) $$ H5
  iapply Hk
  isplitl [H10]; · iexact H10
  isplitl [H4]; · iexact H4
  iexact H5

end Cert.KernelIdeal.P

end
-- ==== Proof.Told.lean ====
/- The kernel's text and the program of `Steps` are one and the same. -/
module
public import proofs.«01_k».proof.Proof.Steps
@[expose] public section
noncomputable section
namespace Cert.KernelIdeal.P
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
set_option maxRecDepth 100000 in
set_option maxHeartbeats 0 in
/-- The body at the only grid step is the program told phase by phase. -/
theorem body_eq_told : bodyAt0 (F := F) t0_0 = told := by
  unfold bodyAt0
  rw [cc0_body_eq_skeleton]
  unfold cc0_body_skel
  rw [k0_part52_eq_skeleton]; unfold k0_part52_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, bind_assoc, pure_bind, told, phaseA, phaseB, phaseC, phaseD, each, relay, ownRelay, head, keep, sendKV, waitKV, ownScores, scores, score, attn, ldV, sendC, waitC, waitSent, waitSentC]
  rfl
end Cert.KernelIdeal.P
end
-- ==== Proof.Body.lean ====
/-
  The whole body of one device: the parts one after another, from what a device starts with to what it ends with.
-/
module

public import proofs.«01_k».proof.Proof.PhaseC
public import proofs.«01_k».proof.Proof.Told

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (A : Args F)

/-! ## The cells of a device, by use -/

/-- A cell's number, from its use. -/
def cellNo : (Fin 7 ⊕ Fin 7) ⊕ (Fin 8 ⊕ Fin 8) ⊕ (Fin 7 ⊕ Fin 8) → Fin 45
  | .inl (.inl r) => ⟨r.val, by omega⟩
  | .inl (.inr r) => ⟨7 + r.val, by omega⟩
  | .inr (.inl (.inl o)) => ⟨14 + 2 * o.val, by omega⟩
  | .inr (.inl (.inr o)) => ⟨15 + 2 * o.val, by omega⟩
  | .inr (.inr (.inl r)) => ⟨30 + r.val, by omega⟩
  | .inr (.inr (.inr o)) => ⟨37 + o.val, by omega⟩

/-- The numbering of the cells names each semaphore once. -/
theorem cellNo_bij : Function.Bijective cellNo := by
  rw [Fintype.bijective_iff_injective_and_card]
  exact ⟨by decide, rfl⟩

/-- What is held for every transfer cell of a device, by the cells' uses. -/
theorem by_use (d : Dev nD) (Φ : SemLoc sig → sProp (MM F)) :
    (bigSep Finset.univ fun k : Fin 45 => Φ (osem k))
      = iprop(((bigSep Finset.univ fun r => Φ (s1C 0 r)) ∗ bigSep Finset.univ fun r => Φ (s1C 1 r))
        ∗ ((Φ (r1C d 0) ∗ bigSep Finset.univ fun r => Φ (r1C (orig d r) 0)) ∗ (Φ (r1C d 1) ∗ bigSep Finset.univ fun r => Φ (r1C (orig d r) 1)))
        ∗ (bigSep Finset.univ fun r => Φ (s2C r)) ∗ (Φ (r2C d) ∗ bigSep Finset.univ fun r => Φ (r2C (peer d r)))) := by
  rw [← by_orig d fun o => Φ (r1C o 0), ← by_orig d fun o => Φ (r1C o 1), ← by_peer d fun o => Φ (r2C o)]
  rw [bigSep_univ_equiv (Equiv.ofBijective cellNo cellNo_bij), bigSep_univ_sum, bigSep_univ_sum, bigSep_univ_sum, bigSep_univ_sum, bigSep_univ_sum]
  have e1 : (fun r : Fin 7 => Φ (osem (cellNo (.inl (.inl r))))) = fun r => Φ (s1C 0 r) :=
    funext fun r => congrArg (fun x => Φ (SemLoc.dma x)) (Fin.ext (show 6 + r.val = 6 + 7 * 0 + r.val by omega))
  have e2 : (fun r : Fin 7 => Φ (osem (cellNo (.inl (.inr r))))) = fun r => Φ (s1C 1 r) :=
    funext fun r => congrArg (fun x => Φ (SemLoc.dma x)) (Fin.ext (show 6 + (7 + r.val) = 6 + 7 * 1 + r.val by omega))
  have e3 : (fun o : Fin 8 => Φ (osem (cellNo (.inr (.inl (.inl o)))))) = fun o => Φ (r1C o 0) :=
    funext fun o => congrArg (fun x => Φ (SemLoc.dma x)) (Fin.ext (show 6 + (14 + 2 * o.val) = 20 + 2 * o.val + 0 by omega))
  have e4 : (fun o : Fin 8 => Φ (osem (cellNo (.inr (.inl (.inr o)))))) = fun o => Φ (r1C o 1) :=
    funext fun o => congrArg (fun x => Φ (SemLoc.dma x)) (Fin.ext (show 6 + (15 + 2 * o.val) = 20 + 2 * o.val + 1 by omega))
  have e5 : (fun r : Fin 7 => Φ (osem (cellNo (.inr (.inr (.inl r)))))) = fun r => Φ (s2C r) :=
    funext fun r => congrArg (fun x => Φ (SemLoc.dma x)) (Fin.ext (show 6 + (30 + r.val) = 36 + r.val by omega))
  have e6 : (fun o : Fin 8 => Φ (osem (cellNo (.inr (.inr (.inr o)))))) = fun o => Φ (r2C o) :=
    funext fun o => congrArg (fun x => Φ (SemLoc.dma x)) (Fin.ext (show 6 + (37 + o.val) = 43 + o.val by omega))
  rw [← e1, ← e2, ← e3, ← e4, ← e5, ← e6]
  rfl

/-! ## The body's resources -/

/-- The rounds a cell has gone through when the body ends: the cells a device would raise for itself stay untouched. -/
def done (d : Dev nD) (s : SemLoc sig) : ℕ := if payers d (kind s) = ∅ then 0 else 1

/-- Each send cell of the first exchange has finished one round. -/
theorem done_s1 (d : Dev nD) (t : Fin 2) (r : Fin 7) : done d (s1C t r) = 1 := by unfold done; rw [kind_s1]; exact if_neg (Finset.singleton_ne_empty d)
/-- Each send cell of the second exchange has finished one round. -/
theorem done_s2 (d : Dev nD) (r : Fin 7) : done d (s2C r) = 1 := by unfold done; rw [kind_s2]; exact if_neg (Finset.singleton_ne_empty d)
/-- Each receive cell of the first exchange has finished one round, but for the device's own. -/
theorem done_r1 (d o : Dev nD) (t : Fin 2) : done d (r1C o t) = if o = d then 0 else 1 := by
  unfold done; rw [kind_r1]; by_cases h : o = d
  · rw [if_pos h]; exact if_pos (if_pos h)
  · rw [if_neg h]; exact if_neg (by rw [payers, if_neg h]; exact Finset.singleton_ne_empty o)
/-- Each receive cell of the second exchange has finished one round, but for the device's own. -/
theorem done_r2 (d o : Dev nD) : done d (r2C o) = if o = d then 0 else 1 := by
  unfold done; rw [kind_r2]; by_cases h : o = d
  · rw [if_pos h]; exact if_pos (if_pos h)
  · rw [if_neg h]; exact if_neg (by rw [payers, if_neg h]; exact Finset.singleton_ne_empty o)

/-- The rights and the credits a device is given at launch. -/
def given (d : Dev nD) : sProp (MM F) :=
  iprop((bigSep Finset.univ fun r => tok (peer d r) barC d)
    ∗ (bigSep Finset.univ fun r => tok d (s1C 0 r) d) ∗ (bigSep Finset.univ fun r => tok (peer d r) (r1C d 0) d)
    ∗ (bigSep Finset.univ fun r => tok d (s1C 1 r) d) ∗ (bigSep Finset.univ fun r => tok (peer d r) (r1C d 1) d)
    ∗ (bigSep Finset.univ fun r => tok d (s2C r) d) ∗ (bigSep Finset.univ fun r => tok (peer d r) (r2C d) d)
    ∗ cred (tallyAt (cell d barC) () 7)
    ∗ (bigSep Finset.univ fun r => crd d (r1C (orig d r) 0)) ∗ (bigSep Finset.univ fun r => crd d (r1C (orig d r) 1))
    ∗ (bigSep Finset.univ fun r => crd d (r2C (peer d r))))

/-- The argument windows of a device. -/
def argsAt (d : Dev nD) : sProp (MM F) :=
  iprop((at_ X0 d ↦[Finset.univ]{fullShare} A.x d) ∗ (at_ X1 d ↦[Finset.univ]{fullShare} A.wq d)
    ∗ (at_ X2 d ↦[Finset.univ]{fullShare} A.kv d 0) ∗ (at_ X3 d ↦[Finset.univ]{fullShare} A.kv d 1)
    ∗ (at_ X4 d ↦[Finset.univ]{fullShare} A.wo d))

/-- The scratch buffers of a device, at any contents. -/
def scratchAt (d : Dev nD) : sProp (MM F) :=
  iprop((∃ f, at_ X6 d ↦[Finset.univ]{fullShare} f) ∗ (∃ f, at_ X7 d ↦[Finset.univ]{fullShare} f)
    ∗ (∃ f, at_ X8 d ↦[Finset.univ]{fullShare} f) ∗ (∃ f, at_ X9 d ↦[Finset.univ]{fullShare} f)
    ∗ (∃ f, at_ X10 d ↦[Finset.univ]{fullShare} f))

/-- The whole body. -/
theorem wp_body (K : GSem nD τ sig → ℕ) (d : Dev nD) (f5 : Vec F S2x256x512 .bf16) (Q : PUnit → sProp (MM F)) :
    Inv A K ∗ levAts L lv ∗ Rch d ∗ (bigSep Finset.univ fun r => reached ER (cell (peer d r) barC) 0)
      ∗ argsAt A d ∗ (at_ X5 d ↦[Finset.univ]{fullShare} f5) ∗ scratchAt d ∗ Ow d (O₀ d) ∗ given d
      ∗ (bigSep Finset.univ fun k => pos d (osem k) 0) ∗ pos d barC 0
      ∗ ((argsAt A d ∗ (at_ X5 d ↦[Finset.univ]{fullShare} outC A d) ∗ scratchAt d ∗ Ow d 0
          ∗ (bigSep Finset.univ fun k => pos d (osem k) (done d (osem k))) ∗ pos d barC 1) -∗ Q ⟨⟩)
      ⊢ WP d (bodyAt0 t0_0) Q := by
  rw [body_eq_told, by_use d (fun s => pos d s 0), by_use d (fun s => pos d s (done d s))]
  simp only [done_s1, done_s2, done_r1, done_r2, if_pos, if_neg (orig_ne d _), if_neg (peer_ne d _)]
  unfold argsAt scratchAt given
  iintro ⟨#HI, #Hl, #HC, Hrb, ⟨HX0, HX1, HX2, HX3, HX4⟩, HX5, ⟨H6, H7, H8, H9, H10⟩, HO,
    ⟨Tb, Ts0, Tr0, Ts1, Tr1, Ts2, Tr2, Cb, Cr0, Cr1, Cr2⟩,
    ⟨⟨Ps0, Ps1⟩, ⟨⟨Po0, Pr0⟩, ⟨Po1, Pr1⟩⟩, Ps2, ⟨Po2, Pr2⟩⟩, Pb, Hk⟩
  unfold told
  iapply (wp_seq d)
  unfold WP
  rw [show (Prog.lift .deviceId : Pg F (Dev nD)) = .op .deviceId .ret from rfl, wp_deviceId, wp_ret]
  imodintro
  iapply (wp_seq d)
  iapply (wp_phaseA A K d)
  isplitr; · iexact HI
  isplitr; · iexact Hl
  isplitr; · iexact HC
  isplitl [HO HX2 HX3 H6 H7 H8 H10 Tb Hrb Ts0 Tr0 Ts1 Tr1 Cb Pb]
  · unfold preA
    rw [bigSep_sep']
    isplitl [HO]; · iexact HO
    isplitl [HX2]; · iexact HX2
    isplitl [HX3]; · iexact HX3
    isplitl [H6]; · iexact H6
    isplitl [H7]; · iexact H7
    isplitl [H8]; · iexact H8
    isplitl [H10]; · iexact H10
    isplitl [Tb Hrb]
    · isplitl [Tb]; · iexact Tb
      iexact Hrb
    isplitl [Ts0]; · iexact Ts0
    isplitl [Tr0]; · iexact Tr0
    isplitl [Ts1]; · iexact Ts1
    isplitl [Tr1]; · iexact Tr1
    isplitl [Cb]; · iexact Cb
    iexact Pb
  unfold postA
  iintro ⟨HO, HX2, HX3, H6, H7, H8, H10, Pc, Rc, Cs0, Cs1, Pb⟩
  iapply (wp_seq d)
  iapply (wp_phaseB A K d)
  isplitr; · iexact HI
  isplitr; · iexact Hl
  isplitl [HO HX0 HX1 H9 H8 Cr0 Cr1 Pr0 Pr1]
  · unfold preB
    isplitl [HO]; · iexact HO
    isplitl [HX0]; · iexact HX0
    isplitl [HX1]; · iexact HX1
    isplitl [H9]; · iexact H9
    isplitl [H8]; · iexact H8
    isplitl [Cr0]; · iexact Cr0
    isplitl [Cr1]; · iexact Cr1
    isplitl [Pr0]; · iexact Pr0
    iexact Pr1
  unfold postB
  iintro ⟨HO, HX0, HX1, H8, H9, Pr0, Pr1⟩
  iapply (wp_seq d)
  iapply (wp_phaseC A K d)
  isplitr; · iexact HI
  isplitr; · iexact Hl
  isplitr; · iexact HC
  isplitl [HO H8 H9 H10 H6 H7 Pc Rc Ts2 Tr2 Cr2 Pr2 Cs0 Ps0 Cs1 Ps1 Ps2]
  · unfold preC
    isplitl [HO]; · iexact HO
    isplitl [H8]; · iexact H8
    isplitl [H9]; · iexact H9
    isplitl [H10]; · iexact H10
    isplitl [H6]; · iexact H6
    isplitl [H7]; · iexact H7
    isplitl [Pc]; · iexact Pc
    isplitl [Rc]; · iexact Rc
    isplitl [Ts2]; · iexact Ts2
    isplitl [Tr2]; · iexact Tr2
    isplitl [Cr2]; · iexact Cr2
    isplitl [Pr2]; · iexact Pr2
    isplitl [Cs0]; · iexact Cs0
    isplitl [Ps0]; · iexact Ps0
    isplitl [Cs1]; · iexact Cs1
    isplitl [Ps1]; · iexact Ps1
    iexact Ps2
  unfold postC
  iintro ⟨HO, H8, H9, H6, H7, H10, Pr2, Ps0, Ps1, Ps2⟩
  iapply (wp_phaseD A d f5)
  isplitl [H10]; · iexact H10
  isplitl [HX4]; · iexact HX4
  isplitl [HX5]; · iexact HX5
  iintro ⟨H10, HX4, HX5⟩
  iapply Hk
  isplitl [HX0 HX1 HX2 HX3 HX4]
  · isplitl [HX0]; · iexact HX0
    isplitl [HX1]; · iexact HX1
    isplitl [HX2]; · iexact HX2
    isplitl [HX3]; · iexact HX3
    iexact HX4
  isplitl [HX5]; · iexact HX5
  isplitl [H6 H7 H8 H9 H10]
  · isplitl [H6]; · iexists _; iexact H6
    isplitl [H7]; · iexists _; iexact H7
    isplitl [H8]; · iexists _; iexact H8
    isplitl [H9]; · iexists _; iexact H9
    iexists _; iexact H10
  isplitl [HO]; · iexact HO
  isplitr [Pb]
  · isplitl [Ps0 Ps1]
    · isplitl [Ps0]; · iexact Ps0
      iexact Ps1
    isplitl [Po0 Pr0 Po1 Pr1]
    · isplitl [Po0 Pr0]
      · isplitl [Po0]; · iexact Po0
        iexact Pr0
      isplitl [Po1]; · iexact Po1
      iexact Pr1
    isplitl [Ps2]; · iexact Ps2
    isplitl [Po2]; · iexact Po2
    iexact Pr2
  iexact Pb

end Cert.KernelIdeal.P

end
-- ==== Proof.Region.lean ====
/-
  The kernel's launch on one device: what its windows hold, what it brings in and hands back, and the body's run between
  the two.
-/
module

public import proofs.«01_k».proof.Proof.Body
public import proofs.«01_k».proof.Proof.Gen.KernelIdeal.Frame
public import Idealize.ShloMosaic.Lib.Pipeline.ValueKit
public import Idealize.ShloMosaic.Lib.Rounds.Family

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ)

/-! ## The contents before and after the kernel -/

/-- What device `c`'s buffers hold when the kernel starts. -/
abbrev V₁ (c : Dev nD) : Valuation τ sig (Elt F) := StableHlo.after hostOps0 (fun b => m (c, b))

/-- The kernel's arguments on every device. -/
def argsOf : Args F where
  x c := V m c main_v1
  wq c := V m c main_arg1
  kv c := ![V m c main_v2, V m c main_v3]
  wo c := V m c main_arg4

/-- What they hold when it has ended: the result's buffer has changed. -/
def V₂ (c : Dev nD) : Valuation τ sig (Elt F) :=
  Function.update (V₁ m c) (Proc.devRef .tc main_v4) (outC (argsOf m) c)

/-- After the region the result holds the kernel's output. -/
theorem V₂_out (c : Dev nD) : V₂ m c main_v4 = outC (argsOf m) c := Function.update_self ..
/-- The region changes no other array. -/
theorem V₂_ne (c : Dev nD) (b : Ref sig .tc) (h : b ≠ main_v4) : V₂ m c b = V m c b :=
  Function.update_of_ne (StableHlo.devRef_ne_of_ne h) ..

/-! ## What comes in and what goes out -/

/-- The invariants, what is open, the places and rights of device `c` when its body starts. -/
def Xk (c : Dev nD) : sProp (MM F) :=
  iprop((∃ K, Inv (argsOf m) K ∗ (bigSep Finset.univ fun k => pos c (osem k) 0)) ∗ Rch c
    ∗ (bigSep Finset.univ fun r => reached ER (cell (peer c r) barC) 0) ∗ pos c barC 0 ∗ given c ∗ levAts L lv)

/-- The same before its own cells are open. -/
def Tk (c : Dev nD) : sProp (MM F) :=
  iprop((∃ K, Inv (argsOf m) K ∗ (bigSep Finset.univ fun k => openTok ER (cell c (osem k))))
    ∗ (bigSep Finset.univ fun r => reached ER (cell (peer c r) barC) 0) ∗ pos c barC 0 ∗ given c)

/-- What is left: the barrier counter at zero. -/
def Yk (c : Dev nD) : sProp (MM F) := semVal (cell c barC) 0

/-- Opening the device's own cells. -/
theorem opened (c : Dev nD) : iprop(Tk m c ∗ Pipeline.ownSems0 osem c ∗ levAts L lv) ⊢ (|={Set.univ}=> Xk m c : sProp (MM F)) := by
  unfold Tk Xk Pipeline.ownSems0
  iintro ⟨⟨⟨%K, #HI, Ht⟩, #Hr, Hb, Hg⟩, Hs, #HL⟩
  ihave Hc := (bigSep_with_persistent (R := Inv (argsOf m) K) (S := Finset.univ)
    (Φ := fun k : Fin 45 => (openTok ER (cell c (osem k)) : sProp (MM F)))
    (Ψ := fun k => iprop(cellInv ER (Rd (argsOf m)) (K (cell c (osem k))) (cell c (osem k)) ∗ openTok ER (cell c (osem k))))
    fun k _ => by
      iintro ⟨#HI, Ht⟩
      isplitr; · iapply (inv_sem (argsOf m) K c k); iexact HI
      iexact Ht) $$ [Ht]
  · isplitr; · iexact HI
    iexact Ht
  imod (Rounds.cells_open ER (Rd (argsOf m)) Finset.univ (fun k : Fin 45 => cell c (osem k)) (fun k => K (cell c (osem k)))
    (Es := Set.univ) fun k _ => Set.mem_univ _) $$ [Hc Hs] with Ho
  · isplitl [Hc]; · iexact Hc
    iexact Hs
  ihave Ho' := (Entails.of_eq (bigSep_sep' _ _ _)) $$ Ho
  icases Ho' with ⟨Ha, #Hrc⟩
  imodintro
  isplitl [Ha]
  · iexists K
    isplitr; · iexact HI
    iexact Ha
  isplitr; · unfold Rch; iexact Hrc
  isplitr; · iexact Hr
  isplitl [Hb]; · iexact Hb
  isplitl [Hg]; · iexact Hg
  iexact HL

/-- No cell has a duty from the round on in which its owner is left. -/
theorem none_left (c : Dev nD) (s : SemLoc sig) (r : ℕ) (h : done c s ≤ r) : (Rd (argsOf m)).duties (cell c s) r = ∅ := by
  unfold done at h
  split at h
  · next e =>
    rcases Nat.eq_zero_or_pos r with rfl | hr
    · rw [duties_zero]; exact e
    · exact duties_later (argsOf m) _ r hr
  · exact duties_later (argsOf m) _ r h

/-- Closing every cell of the device. -/
theorem closed (K : GSem nD τ sig → ℕ) (c : Dev nD) :
    iprop(Inv (argsOf m) K ∗ (bigSep Finset.univ fun k => pos c (osem k) (done c (osem k))) ∗ pos c barC 1)
      ⊢ (|={Set.univ}=> iprop(Pipeline.ownSems0 osem c ∗ Yk c) : sProp (MM F)) := by
  unfold Yk Pipeline.ownSems0
  iintro ⟨#HI, Hp, Hb⟩
  ihave Hc := (bigSep_with_persistent (R := Inv (argsOf m) K) (S := Finset.univ)
    (Φ := fun k : Fin 45 => (pos c (osem k) (done c (osem k)) : sProp (MM F)))
    (Ψ := fun k => iprop(cellInv ER (Rd (argsOf m)) (K (cell c (osem k))) (cell c (osem k)) ∗ pos c (osem k) (done c (osem k))))
    fun k _ => by
      iintro ⟨#HI, Ht⟩
      isplitr; · iapply (inv_sem (argsOf m) K c k); iexact HI
      iexact Ht) $$ [Hp]
  · isplitr; · iexact HI
    iexact Hp
  imod (Rounds.cells_close ER (Rd (argsOf m)) Finset.univ (fun k : Fin 45 => cell c (osem k)) (fun k => K (cell c (osem k)))
    (Es := Set.univ) (fun k _ => Set.mem_univ _) (fun k _ => id) (fun k => done c (osem k)) fun k _ r h => none_left m c _ r h) $$ [Hc] with Hs
  · iexact Hc
  imod (Rounds.cell_close ER (Rd (argsOf m)) (g := cell c barC) (Set.mem_univ (K (cell c barC))) id (fun r h => duties_later (argsOf m) _ r h)) $$ [Hb] with Hb
  · isplitr; · iapply (inv_bar (argsOf m) K c); iexact HI
    iexact Hb
  imodintro
  isplitl [Hs]; · iexact Hs
  iexact Hb

/-! ## The proof data -/

/-- The scratch and the generator's register of a device. -/
def spare (c : Dev nD) : sProp (MM F) := iprop(scratchAt c ∗ ∃ r, prngReg c r)

/-- The one point of the launch: the device owes everything before it, nothing after. -/
def dat (c : Dev nD) : Pipeline.Dat τ (Elt F) Unit ℕ UU ℕ cfg0 c where
  A w := V₁ m c (Proc.devRef .tc (Pipeline.arrRef spec0 w))
  after := fun
    | 0 => fun _ => (argsOf m).x c
    | 1 => fun _ => (argsOf m).wq c
    | 2 => fun _ => (argsOf m).kv c 0
    | 3 => fun _ => (argsOf m).kv c 1
    | 4 => fun _ => (argsOf m).wo c
    | 5 => fun _ => outC (argsOf m) c
    | ⟨_ + 6, h⟩ => absurd h (Nat.not_lt.2 (Nat.le_add_left _ _))
  Φ t := if t.val = 0 then iprop(Xk m c ∗ spare c) else iprop((Pipeline.ownSems0 osem c ∗ Yk c) ∗ spare c)
  q _ := fullShare
  owed t := if t.val = 0 then O₀ c else 0

/-- The region's plan of transfers is admissible. -/
abbrev adm : (p : Fin 1) → (pcfgs (F := F) p).Adm := fun p => (cfgs p).toPCfg_adm

/-- The region's data, as the launch asks for them. -/
def pdats : (p : Fin 1) → (c : Dev nD) → Pipeline.Dat τ (Elt F) Unit ℕ UU ℕ (Pipeline.pin (pcfgs (F := F)) adm p) c
  | 0 => dat m
  | ⟨_ + 1, h⟩ => absurd h (Nat.not_lt.2 (Nat.le_add_left _ _))

/-- Before the only step the device owes its whole share. -/
theorem owed_first (c : Dev nD) : (dat m c).owed t0_0.castSucc = O₀ c := by
  show (if (t0_0.castSucc : Fin (cfg0.N + 1)).val = 0 then O₀ c else 0) = O₀ c
  exact if_pos rfl
/-- At the start the device owes its whole share. -/
theorem owed_start (c : Dev nD) : (pdats m 0 c).owed 0 = O₀ c := by
  show (if ((0 : Fin (cfg0.N + 1)).val = 0) then O₀ c else 0) = O₀ c
  exact if_pos rfl
/-- At the end the device owes nothing. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- A whole window holds its array. -/
theorem before_in (c : Dev nD) (d0 d1 d2 d3 d4) :
    (dat m c).before 0 t0_0 d0 = (argsOf m).x c ∧ (dat m c).before 1 t0_0 d1 = (argsOf m).wq c
      ∧ (dat m c).before 2 t0_0 d2 = (argsOf m).kv c 0 ∧ (dat m c).before 3 t0_0 d3 = (argsOf m).kv c 1
      ∧ (dat m c).before 4 t0_0 d4 = (argsOf m).wo c := by
  refine ⟨?_, ?_, ?_, ?_, ?_⟩
  · unfold Pipeline.Dat.before
    rw [if_pos (fetch0_0 t0_0)]
    funext j
    exact congrArg (V m c main_v1) (funext fun a => Fin.ext (Pipeline.Window.rect_emb_val_of_index_zero win0_0 t0_0 a rfl j))
  · unfold Pipeline.Dat.before
    rw [if_pos (fetch0_1 t0_0)]
    funext j
    exact congrArg (V m c main_arg1) (funext fun a => Fin.ext (Pipeline.Window.rect_emb_val_of_index_zero win0_1 t0_0 a rfl j))
  · unfold Pipeline.Dat.before
    rw [if_pos (fetch0_2 t0_0)]
    funext j
    exact congrArg (V m c main_v2) (funext fun a => Fin.ext (Pipeline.Window.rect_emb_val_of_index_zero win0_2 t0_0 a rfl j))
  · unfold Pipeline.Dat.before
    rw [if_pos (fetch0_3 t0_0)]
    funext j
    exact congrArg (V m c main_v3) (funext fun a => Fin.ext (Pipeline.Window.rect_emb_val_of_index_zero win0_3 t0_0 a rfl j))
  · unfold Pipeline.Dat.before
    rw [if_pos (fetch0_4 t0_0)]
    funext j
    exact congrArg (V m c main_arg4) (funext fun a => Fin.ext (Pipeline.Window.rect_emb_val_of_index_zero win0_4 t0_0 a rfl j))

/-- The result's array ends as the body left its window. -/
theorem after_out (c : Dev nD) : (dat m c).arrAt 5 cfg0.N = outC (argsOf m) c := by
  refine (dat m c).arrAt_eq_of_after_last 5 t0_0 (by decide +kernel) _ fun j => ?_
  rfl

/-- What the device owes, in the launch's form. -/
theorem owes_in (c : Dev nD) (t : Fin (cfg0.N + 1)) (O : CellTallies nD τ sig Unit) (h : (dat m c).owed t = O) :
    (Ow c O : sProp (MM F)) ⊢ (dat m c).owesAt () t := by
  unfold Ow Pipeline.Dat.owesAt Pipeline.owesWithin Pipeline.Dat.bound
  rw [h]
  iintro ⟨%W, HO⟩
  iexists W
  isplitr; · ipureintro; exact fun _ _ => Or.inl trivial
  iexact HO

/-- What the device owes, back from the launch's form. -/
theorem owes_out (c : Dev nD) (t : Fin (cfg0.N + 1)) (O : CellTallies nD τ sig Unit) (h : (dat m c).owed t = O) :
    (dat m c).owesAt () t ⊢ (Ow c O : sProp (MM F)) := by
  unfold Ow Pipeline.Dat.owesAt Pipeline.owesWithin
  rw [h]
  iintro ⟨%W, -, HO⟩
  iexists W
  iexact HO

set_option maxRecDepth 16384 in
/-- The body's run, from what comes in to what goes out. -/
theorem body_ok (c : Dev nD) : Pipeline.BodyObligation (dat m c) defs₀ 𝒱₀ () Set.univ := fun t => by
  obtain rfl := fin_N0 t
  rw [bigSep_W0, bigSep_W0]
  show iprop(iprop(Xk m c ∗ spare c) ∗ (dat m c).owesAt () t0_0.castSucc
      ∗ (∃ d, owns (Dev.tc (τ := τ) c) X0 fullShare ((dat m c).before 0 t0_0 d))
      ∗ (∃ d, owns (Dev.tc (τ := τ) c) X1 fullShare ((dat m c).before 1 t0_0 d))
      ∗ (∃ d, owns (Dev.tc (τ := τ) c) X2 fullShare ((dat m c).before 2 t0_0 d))
      ∗ (∃ d, owns (Dev.tc (τ := τ) c) X3 fullShare ((dat m c).before 3 t0_0 d))
      ∗ (∃ d, owns (Dev.tc (τ := τ) c) X4 fullShare ((dat m c).before 4 t0_0 d))
      ∗ (∃ d, owns (Dev.tc (τ := τ) c) X5 fullShare ((dat m c).before 5 t0_0 d)))
    ⊢ WP c (bodyAt0 t0_0) fun _ => iprop(iprop((Pipeline.ownSems0 osem c ∗ Yk c) ∗ spare c) ∗ (dat m c).owesAt () t0_0.succ
      ∗ owns (Dev.tc (τ := τ) c) X0 fullShare ((argsOf m).x c) ∗ owns (Dev.tc (τ := τ) c) X1 fullShare ((argsOf m).wq c)
      ∗ owns (Dev.tc (τ := τ) c) X2 fullShare ((argsOf m).kv c 0) ∗ owns (Dev.tc (τ := τ) c) X3 fullShare ((argsOf m).kv c 1)
      ∗ owns (Dev.tc (τ := τ) c) X4 fullShare ((argsOf m).wo c) ∗ owns (Dev.tc (τ := τ) c) X5 fullShare (outC (argsOf m) c))
  unfold spare
  iintro ⟨⟨HX, Hsc, Hp⟩, HO, ⟨%d0, H0⟩, ⟨%d1, H1⟩, ⟨%d2, H2⟩, ⟨%d3, H3⟩, ⟨%d4, H4⟩, ⟨%d5, H5⟩⟩
  have hb := before_in m c d0 d1 d2 d3 d4
  rw [hb.1, hb.2.1, hb.2.2.1, hb.2.2.2.1, hb.2.2.2.2]
  simp only [owns_whole]
  unfold Xk
  icases HX with ⟨⟨%K, #HI, Hpos⟩, Hrch, #Hr, Hb, Hg, #HL⟩
  ihave HO' := (owes_out m c _ (O₀ c) (owed_first m c)) $$ HO
  iapply (wp_fupd _ _ _ (bodyAt0 (F := F) t0_0) _)
  iapply (wp_body (argsOf m) K c _)
  isplitr; · iexact HI
  isplitr; · iexact HL
  isplitl [Hrch]; · iexact Hrch
  isplitr; · iexact Hr
  isplitl [H0 H1 H2 H3 H4]
  · unfold argsAt
    isplitl [H0]; · iexact H0
    isplitl [H1]; · iexact H1
    isplitl [H2]; · iexact H2
    isplitl [H3]; · iexact H3
    iexact H4
  isplitl [H5]; · iexact H5
  isplitl [Hsc]; · iexact Hsc
  isplitl [HO']; · iexact HO'
  isplitl [Hg]; · iexact Hg
  isplitl [Hpos]; · iexact Hpos
  isplitl [Hb]; · iexact Hb
  iintro ⟨Ha, H5, Hsc, HO, Hpos, Hb⟩
  imod (closed m K c) $$ [Hpos Hb] with HY
  · isplitr; · iexact HI
    isplitl [Hpos]; · iexact Hpos
    iexact Hb
  imodintro
  isplitl [HY Hsc Hp]
  · isplitl [HY]; · iexact HY
    isplitl [Hsc]; · iexact Hsc
    iexact Hp
  isplitl [HO]; · iapply (owes_in m c t0_0.succ 0 (owed_last m c)); iexact HO
  unfold argsAt
  icases Ha with ⟨H0, H1, H2, H3, H4⟩
  isplitl [H0]; · iexact H0
  isplitl [H1]; · iexact H1
  isplitl [H2]; · iexact H2
  isplitl [H3]; · iexact H3
  isplitl [H4]; · iexact H4
  iexact H5

/-! ## The region -/

/-- The launch's side conditions. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of a device, and those no window holds. -/
abbrev bufs : Finset (DevRef τ sig) := (StableHlo.tcRefs τ sig).filter fun b => ¬ b.isScoped
/-- The arrays the region does not transfer. -/
abbrev others : Finset (DevRef τ sig) := bufs \ Pipeline.arrRefs (τ := τ) spec0

/-- What is owed lies above the staging cells. -/
theorem above_staging (c : Dev nD) : Above 0 (O₀ c) :=
  (((Above.from_ (fun r => (above_gC c r).mono (by decide)) 0).add (Above.from_ (fun r => (above_gK c 1 r).mono (by decide)) 0)).add
    (Above.from_ (fun r => (above_gK c 0 r).mono (by decide)) 0)).add (Above.from_ (fun r => Above.at _ _ _ (by rw [kind_bar]; decide)) 0)

/-- What the staging transfers wait for lies below what the device owes. -/
theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · have := above_staging c g i h
    refine ⟨?_, this.2⟩
    unfold L
    rw [if_pos this.1]
    exact Finset.mem_singleton_self _
  · exact absurd h (Nat.lt_irrefl 0)

/-- The staging semaphores stand lowest in the order of waiting. -/
theorem rank_staging : ∀ (w : Fin 6) (s : Fin (spec0 w).nbuf), rank (kind (.dma ((spec0 w).sem s))) ≤ 0 := by decide

/-- The memory on entry, divided for the region. -/
theorem enter (c : Dev nD) :
    iprop(Pipeline.scopedRest (Pipeline.pin (pcfgs (F := F)) adm 0).spec c ∗ (∃ r, prngReg c r)
        ∗ StableHlo.held (c.tc : Thread nD τ) ∅ (V₁ m c) ∗ Xk m c) ⊢ (pdats m 0 c).Φ 0 := by
  rw [show (pdats m 0 c).Φ 0 = iprop(Xk m c ∗ spare c) from rfl,
    show (Pipeline.scopedRest (Ix := Unit) (Name := ℕ) (U := UU) (Lvl := ℕ) (Val := Elt F) (Pipeline.pin (pcfgs (F := F)) adm 0).spec c : sProp (MM F))
      = scratchAt c from scopedRest0_eq c]
  unfold spare
  iintro ⟨Hs, Hp, -, HX⟩
  isplitl [HX]; · iexact HX
  isplitl [Hs]; · iexact Hs
  iexact Hp

/-- The memory on leaving, put together again. -/
theorem leave (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (V₂ m c) ∗ Pipeline.ownSems0 osem c ∗ Yk c) := by
  rw [show (pdats m 0 c).Φ (Fin.last _) = iprop((Pipeline.ownSems0 osem c ∗ Yk c) ∗ spare c) from rfl,
    show (Pipeline.scopedRest (Ix := Unit) (Name := ℕ) (U := UU) (Lvl := ℕ) (Val := Elt F) (Pipeline.pin (pcfgs (F := F)) adm 0).spec c : sProp (MM F))
      = scratchAt c from scopedRest0_eq c]
  unfold spare StableHlo.held
  rw [bigSep_empty]
  iintro ⟨⟨Ho, HY⟩, Hs, Hp⟩
  isplitl [Hs]; · iexact Hs
  isplitl [Hp]; · iexact Hp
  isplitr; · iempintro
  isplitl [Ho]; · iexact Ho
  iexact HY

/-- No array outside the region's transfers is the result. -/
theorem arr_ne (b : DevRef τ sig) (hb : b ∈ others) : b ≠ Proc.devRef .tc main_v4 := by
  rintro rfl
  exact (Finset.mem_sdiff.mp hb).2 (by decide)

/-- What each transferred array holds after the region. -/
theorem arr_after (c : Dev nD) (w : Fin 6) :
    (pdats m 0 c).arrAt w (Pipeline.pin (pcfgs (F := F)) adm 0).N = V₂ m c (Proc.devRef .tc (Pipeline.arrRef spec0 w)) := by
  have hin (w : Fin 6) (hi : (cfg0.win w).isOut = false) (hn : Pipeline.arrRef spec0 w ≠ main_v4) :
      (dat m c).arrAt w cfg0.N = V₂ m c (Proc.devRef .tc (Pipeline.arrRef spec0 w)) :=
    ((dat m c).arrAt_in w hi _).trans (V₂_ne m c _ hn).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (after_out m c).trans (V₂_out m c).symm
  | ⟨_ + 6, h⟩ => exact absurd h (Nat.not_lt.2 (Nat.le_add_left _ _))

set_option backward.isDefEq.respectTransparency.types false in
/-- The region's record. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_ok m c).loose)
    (fun _ => 0) O₀ (fun c => (owed_start m c).trans (zero_add _).symm) (owed_last m) (fun _ => rfl) (fun _ _ => by
      unfold Pipeline.Dat.share
      split <;> rfl)
    (V₁ m) (V₂ m) (fun _ b hb => Function.update_of_ne (arr_ne b (Finset.mem_sdiff.mp hb).1) ..)
    (Tk m) Yk (Xk m) Yk (opened m) (enter m) (leave m)
    (fun c => by iintro H; imodintro; iexact H)
    (fun _ => 0)
    ⟨fun c w s => by show () ∈ L (cell c _); rw [L_cell]; exact Finset.mem_singleton_self _, fun c w s => rank_staging w s, fun c t g i h => cut m c t g i h⟩
    (fun _ => iprop(emp))
    (fun _ _ => rfl) (arr_after m)

end Cert.KernelIdeal.P

end
-- ==== Proof.Run.lean ====
/-
  The launch of the whole program: the ghost state and the credit dealt to the devices, and the run: every execution ends
  with the arguments as launched, each device's result at the kernel's output, and every semaphore at zero.
-/
module

public import proofs.«01_k».proof.Proof.Region

@[expose] public section

noncomputable section

namespace Cert.KernelIdeal.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (ρ : Dev nD → PrngReg)

/-! ## Who pays where -/

/-- The device whose cell the payment number `j` of device `d` at step `r` goes to. -/
def paidDev (d : Dev nD) (u : Fin 7 × Fin 7) : Dev nD := ![peer d u.2, d, peer d u.2, d, peer d u.2, d, peer d u.2] u.1
/-- The semaphore of that cell. -/
def paidSem (d : Dev nD) (u : Fin 7 × Fin 7) : SemLoc sig :=
  ![barC, s1C 0 u.2, r1C d 0, s1C 1 u.2, r1C d 1, s2C u.2, r2C d] u.1

/-- A device pays no cell twice. -/
theorem paid_inj : ∀ d : Dev nD, Function.Injective fun u => (paidDev d u, paidSem d u) := by
  unfold Function.Injective
  decide +kernel

/-- Every payment of the run: its cell, its round, its payer. -/
def payEmb : Dev nD × (Fin 7 × Fin 7) ↪ GSem nD τ sig × ℕ × Dev nD :=
  ⟨fun x => (cell (paidDev x.1 x.2) (paidSem x.1 x.2), 0, x.1), fun x y h => by
    have h1 : x.1 = y.1 := congrArg (fun t : GSem nD τ sig × ℕ × Dev nD => t.2.2) h
    obtain ⟨d, u⟩ := x
    obtain ⟨e, v⟩ := y
    obtain rfl : d = e := h1
    exact congrArg (Prod.mk d) (paid_inj d (Prod.ext (congrArg (fun t : GSem nD τ sig × ℕ × Dev nD => t.1.1.1) h)
      (congrArg (fun t : GSem nD τ sig × ℕ × Dev nD => t.1.2) h)))⟩

/-- The rights to pay that device `d` gets. -/
def rights (d : Dev nD) : sProp (MM F) :=
  iprop((bigSep Finset.univ fun r => tok (peer d r) barC d)
    ∗ (bigSep Finset.univ fun r => tok d (s1C 0 r) d) ∗ (bigSep Finset.univ fun r => tok (peer d r) (r1C d 0) d)
    ∗ (bigSep Finset.univ fun r => tok d (s1C 1 r) d) ∗ (bigSep Finset.univ fun r => tok (peer d r) (r1C d 1) d)
    ∗ (bigSep Finset.univ fun r => tok d (s2C r) d) ∗ (bigSep Finset.univ fun r => tok (peer d r) (r2C d) d))

/-- The rights to pay, dealt to the devices that pay. -/
theorem rights_dealt :
    bigSep (Finset.univ.map payEmb) (fun x => (dutyTok ER x.1 x.2.1 x.2.2 : sProp (MM F))) = bigSep Finset.univ fun d => rights d := by
  rw [bigSep_map, bigSep_univ_prod]
  refine bigSep_congr fun d _ => ?_
  rw [bigSep_univ_prod, bigSep_univ_eq_bigSepL [(0 : Fin 7), 1, 2, 3, 4, 5, 6] (by decide) (by decide)]
  rfl

/-! ## The credit -/

/-- What one loop of device `e` owes a cell: its amount, if the cell is another device's at the loop's semaphore. -/
theorem loop_owes (e d : Dev nD) (s s₀ : SemLoc sig) (n : ℕ) :
    (from_ (fun r => tallyAt (cell (peer e r) s₀) () n) 0) (cell d s) () = if d ≠ e ∧ s = s₀ then n else 0 := by
  have hc : ∀ e d : Dev nD, (∑ r : Fin 7, if d = peer e r then 1 else 0) = if d ≠ e then 1 else 0 := by decide +kernel
  rw [from_zero, Finset.sum_apply, Finsupp.finset_sum_apply]
  have ht (r : Fin 7) : (tallyAt (cell (peer e r) s₀) () n : CellTallies nD τ sig Unit) (cell d s) ()
      = (if d = peer e r then 1 else 0) * if s = s₀ then n else 0 := by
    rw [tallyAt_apply]
    by_cases h1 : d = peer e r
    · by_cases h2 : s = s₀
      · rw [if_pos h1, if_pos h2, if_pos ⟨by rw [h1, h2], rfl⟩, one_mul]
      · rw [if_pos h1, if_neg h2, if_neg fun h => h2 (congrArg Prod.snd h.1)]
    · rw [if_neg h1, if_neg fun h => h1 (congrArg (fun g : GSem nD τ sig => g.1.1) h.1), zero_mul]
  rw [Finset.sum_congr rfl fun r _ => ht r, ← Finset.sum_mul, hc]
  by_cases h1 : d = e <;> by_cases h2 : s = s₀ <;> simp [h1, h2]

/-- What one device owes a cell of another. -/
theorem owes_at (e d : Dev nD) (s : SemLoc sig) :
    O₀ e (cell d s) () = (((if d ≠ e ∧ s = r2C e then Nc else 0) + if d ≠ e ∧ s = r1C e 1 then Nc else 0)
      + if d ≠ e ∧ s = r1C e 0 then Nc else 0) + if d ≠ e ∧ s = barC then 1 else 0 := by
  rw [← loop_owes, ← loop_owes, ← loop_owes, ← loop_owes]
  rfl

/-- All that is owed a cell. -/
def due (d : Dev nD) (s : SemLoc sig) : ℕ := ∑ e : Dev nD, ((((if d ≠ e ∧ s = r2C e then Nc else 0) + if d ≠ e ∧ s = r1C e 1 then Nc else 0)
      + if d ≠ e ∧ s = r1C e 0 then Nc else 0) + if d ≠ e ∧ s = barC then 1 else 0)

/-- Seven signals are due at each barrier. -/
theorem due_bar : ∀ d : Dev nD, due d barC = 7 := by decide +kernel
/-- What is due at the receive cell of an origin's keys: one block. -/
theorem due_k : ∀ (d : Dev nD) (r : Fin 7), due d (r1C (orig d r) 0) = Nc := by decide +kernel
/-- What is due at the receive cell of an origin's values: one block. -/
theorem due_v : ∀ (d : Dev nD) (r : Fin 7), due d (r1C (orig d r) 1) = Nc := by decide +kernel
/-- What is due at the receive cell of a peer's context: one block. -/
theorem due_c : ∀ (d : Dev nD) (r : Fin 7), due d (r2C (peer d r)) = Nc := by decide +kernel

/-- The credit a cell's owner holds for what is due. -/
theorem credit_at (d : Dev nD) (s : SemLoc sig) (n : ℕ) (h : due d s = n) :
    tallyOn (cell d s) (launchCredit (Pipeline.owing O₀) 0 (cell d s)) = (tallyAt (cell d s) () n : CellTallies nD τ sig Unit) := by
  unfold tallyAt
  refine congrArg _ (Finsupp.ext fun u => ?_)
  cases u
  rw [Pipeline.launchCredit_owing, Finsupp.single_eq_same, Finset.sum_congr rfl fun e _ => owes_at e d s]
  exact h

/-- The semaphores of device `d` that others raise. -/
def raised (d : Dev nD) : Unit ⊕ (Fin 3 × Fin 7) → SemLoc sig
  | .inl _ => barC
  | .inr u => ![r1C (orig d u.2) 0, r1C (orig d u.2) 1, r2C (peer d u.2)] u.1

/-- The cells of a device that others raise are all different. -/
theorem raised_inj : ∀ d : Dev nD, Function.Injective (raised d) := by
  unfold Function.Injective
  decide +kernel

/-- The credit device `d` waits with. -/
def credits (d : Dev nD) : sProp (MM F) :=
  iprop(cred (tallyAt (cell d barC) () 7)
    ∗ (bigSep Finset.univ fun r => crd d (r1C (orig d r) 0)) ∗ (bigSep Finset.univ fun r => crd d (r1C (orig d r) 1))
    ∗ (bigSep Finset.univ fun r => crd d (r2C (peer d r))))

/-- The credits at the launch are those the device waits with. -/
theorem credits_dealt (d : Dev nD) : (Pipeline.launchCred O₀ d : sProp (MM F)) ⊢ credits d := by
  unfold Pipeline.launchCred credits
  refine (show bigSep Finset.univ (fun sm : SemLoc sig => (cred (tallyOn ((d.tc : Thread nD τ), sm)
      (launchCredit (Pipeline.owing O₀) 0 ((d.tc : Thread nD τ), sm))) : sProp (MM F))) ⊢ _ from
    bigSep_subset (Finset.subset_univ (Finset.univ.map ⟨raised d, raised_inj d⟩))).trans (Entails.of_eq ?_)
  rw [bigSep_map, bigSep_univ_sum, bigSep_univ_prod, bigSep_univ_eq_bigSepL [(0 : Fin 3), 1, 2] (by decide) (by decide),
    Finset.univ_unique, bigSep_singleton]
  refine congrArg₂ BI.sep (congrArg cred (credit_at d barC 7 (due_bar d))) (congrArg₂ BI.sep ?_ (congrArg₂ BI.sep ?_ ?_))
  · exact bigSep_congr fun r _ => congrArg cred (credit_at d _ Nc (due_k d r))
  · exact bigSep_congr fun r _ => congrArg cred (credit_at d _ Nc (due_v d r))
  · exact bigSep_congr fun r _ => congrArg cred (credit_at d _ Nc (due_c d r))

/-- The rights and the credits are what a device is given. -/
theorem given_intro (d : Dev nD) : iprop(rights d ∗ credits d) ⊢ (given d : sProp (MM F)) := by
  unfold rights credits given
  iintro ⟨⟨H1, H2, H3, H4, H5, H6, H7⟩, HC⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HC

/-! ## The cells -/

/-- The barrier's cell on each device. -/
def barEmb : Dev nD ↪ GSem nD τ sig := ⟨fun d => cell d barC, fun _ _ h => congrArg (fun g : GSem nD τ sig => g.1.1) h⟩
/-- A device's own cells are different. -/
theorem osem_inj : Function.Injective osem := by decide
/-- Every device's own cells. -/
def ownEmb : Dev nD × Fin 45 ↪ GSem nD τ sig :=
  ⟨fun x => cell x.1 (osem x.2), fun _ _ h =>
    Prod.ext (congrArg (fun g : GSem nD τ sig => g.1.1) h) (osem_inj (congrArg Prod.snd h))⟩

/-- The barrier's cells. -/
abbrev barCells : Finset (GSem nD τ sig) := Finset.univ.map barEmb
/-- The copies' cells. -/
abbrev ownCells : Finset (GSem nD τ sig) := Finset.univ.map ownEmb

/-- No barrier's cell is a copy's. -/
theorem cells_apart : Disjoint barCells ownCells := by
  rw [Finset.disjoint_left]
  intro g h₁ h₂
  obtain ⟨d, -, rfl⟩ := Finset.mem_map.mp h₁
  obtain ⟨x, -, h⟩ := Finset.mem_map.mp h₂
  exact absurd (congrArg Prod.snd h) (by show osem x.2 ≠ barC; unfold osem; exact fun h => nomatch h)

/-- Over the barriers' cells: device by device. -/
theorem at_bars (Φ : GSem nD τ sig → sProp (MM F)) : bigSep barCells Φ = bigSep Finset.univ fun d : Dev nD => Φ (cell d barC) :=
  bigSep_map _
/-- Over the copies' cells: device by device and cell by cell. -/
theorem at_own (Φ : GSem nD τ sig → sProp (MM F)) :
    bigSep ownCells Φ = bigSep Finset.univ fun d : Dev nD => bigSep Finset.univ fun k => Φ (cell d (osem k)) := by
  rw [bigSep_map, bigSep_univ_prod]
  rfl

/-- The launch's ghost state: the pipeline library's at the staging cells, the exchange's. -/
def u₀ : UU :=
  (initOf (Pipeline.cells (Pipeline.pin (pcfgs (F := F)) adm) cellOf_inj) (Pipeline.launchToks (Pipeline.pin (pcfgs (F := F)) adm) cellOf_inj),
    launchOf barCells ownCells (Finset.univ.map payEmb))

/-- The exchange's part, held by device 0 until it is dealt. -/
def stock (d : Dev nD) : sProp (MM F) := if d = 0 then BI.own (ER (launchOf barCells ownCells (Finset.univ.map payEmb))) else iprop(emp)

/-- The devices' stocks are the launch's ghost state. -/
theorem stock_all : bigSep Finset.univ stock = (BI.own (ER (launchOf barCells ownCells (Finset.univ.map payEmb))) : sProp (MM F)) := by
  rw [bigSep_univ_at _ (0 : Dev nD), bigSep_congr (s := Finset.univ.erase (0 : Dev nD)) (Ψ := fun _ => (BI.emp : sProp (MM F)))
    fun d hd => by unfold stock; rw [if_neg (Finset.ne_of_mem_erase hd)]; rfl, BI.bigSep_emp_const]
  unfold stock
  rw [if_pos rfl]
  exact BI.equiv_iff.mp sep_emp

/-- What all may consult: the invariants; that the barrier cells are open. -/
def known (K : GSem nD τ sig → ℕ) : sProp (MM F) :=
  iprop(Inv (argsOf m) K ∗ bigSep Finset.univ fun d : Dev nD => reached ER (cell d barC) 0)
/-- What is known of the cells may be used again and again. -/
instance known_persistent (K : GSem nD τ sig → ℕ) : BI.Persistent (known m K) := by unfold known; infer_instance

/-- What is each device's own. -/
def mine (c : Dev nD) : sProp (MM F) :=
  iprop(pos c barC 0 ∗ (bigSep Finset.univ fun k => openTok ER (cell c (osem k))) ∗ rights c)

/-- The other holdings of a device at launch. -/
def rest (c : Dev nD) : sProp (MM F) :=
  iprop(StableHlo.held (c : Thread nD τ) bufs (fun b => m (c, b)) ∗ credits c ∗ (∃ r, prngReg c r) ∗ Ow c (O₀ c))

/-- What the kernel is entered with beside the buffers. -/
def R (c : Dev nD) : sProp (MM F) := iprop(Tk m c ∗ (∃ r, prngReg c r) ∗ Ow c (O₀ c))

/-- What a device holds at the start. -/
abbrev T₀ (c : Dev nD) : sProp (MM F) := iprop(StableHlo.held (c : Thread nD τ) bufs (fun b => m (c, b)) ∗ R m c)
/-- What a device holds at the end. -/
abbrev Tₙ (c : Dev nD) : sProp (MM F) := iprop(StableHlo.held (c : Thread nD τ) bufs (V₂ m c) ∗ Yk c)

/-- When the barrier of every device is reached, those of the peers are. -/
theorem reach_peers (c : Dev nD) : (bigSep Finset.univ fun d : Dev nD => (reached ER (cell d barC) 0 : sProp (MM F)))
    ⊢ bigSep Finset.univ fun r => reached ER (cell (peer c r) barC) 0 := by
  rw [bigSep_univ_at _ c, others_peer c]
  exact sep_elim_right

/-- What the launch gives a device is what it holds at the start. -/
theorem T₀_intro (K : GSem nD τ sig → ℕ) (c : Dev nD) : iprop(known m K ∗ (mine c ∗ rest m c)) ⊢ T₀ m c := by
  unfold known mine rest T₀ R Tk
  iintro ⟨⟨#HI, #Hr⟩, ⟨Hb, Ho, Ht⟩, Hh, Hc, Hp, HO⟩
  isplitl [Hh]; · iexact Hh
  isplitl [Hb Ho Ht Hc]
  · isplitl [Ho]
    · iexists K
      isplitr; · iexact HI
      iexact Ho
    isplitr; · iapply (reach_peers (F := F) c); iexact Hr
    isplitl [Hb]; · iexact Hb
    iapply (given_intro (F := F) c)
    isplitl [Ht]; · iexact Ht
    iexact Hc
  isplitl [Hp]; · iexact Hp
  iexact HO

/-- The counters at zero that outlive the launch are the barrier's alone. -/
theorem bar_zero (c : Dev nD) : (unscopedSems0 c : sProp (MM F)) = semVal (cell c barC) 0 := by
  unfold unscopedSems0
  rw [show (Finset.univ.filter fun sm : SemLoc sig => ¬ sm.isScoped .tc) = {SemLoc.reg barS} from by decide, BI.bigSep_singleton]

/-- The arrays a device holds, one after the other. -/
theorem bufs_held (c : Dev nD) (W : Valuation τ sig (Elt F)) :
    (unscopedBufs c (fun b => W b) : sProp (MM F)) = StableHlo.held (c : Thread nD τ) bufs W := by
  unfold unscopedBufs StableHlo.held bufs StableHlo.tcRefs
  rw [Finset.filter_map, BI.bigSep_map]
  rfl

/-- One device's launch holdings, sorted. -/
theorem sorted (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ stock c)
      ⊢ (iprop(rest m c ∗ semVal (cell c barC) 0 ∗ stock c) : sProp (MM F)) := by
  rw [show unscopedBufs c (fun b => m ((c : Thread nD τ).loc b)) = (StableHlo.held (c : Thread nD τ) bufs (fun b => m (c, b)) : sProp (MM F))
    from bufs_held c fun b => m (c, b), bar_zero]
  unfold rest Ow
  iintro ⟨Hh, Hs, HO, Hc, Hp, HG⟩
  isplitl [Hh Hc Hp HO]
  · isplitl [Hh]; · iexact Hh
    isplitl [Hc]; · iapply (credits_dealt (F := F) c); iexact Hc
    isplitl [Hp]; · iexists (ρ c); iexact Hp
    iexists ∅
    iexact HO
  isplitl [Hs]; · iexact Hs
  iexact HG

/-- The invariants of all cells, sorted by device. -/
theorem inv_sorted (K : GSem nD τ sig → ℕ) :
    (bigSep (barCells ∪ ownCells) fun g => (cellInv ER (Rd (argsOf m)) (K g) g : sProp (MM F))) = Inv (argsOf m) K := by
  rw [bigSep_union cells_apart, at_bars, at_own]
  rfl

/-- The launch: the cells' invariants made, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ stock c)) ∗ levAts L lv)
      ⊢ (|={Set.univ}=> bigSep Finset.univ (T₀ m) : sProp (MM F)) := by
  refine (sep_mono_left (bigSep_mono fun c _ => sorted m ρ c)).trans ?_
  rw [bigSep_sep', bigSep_sep', stock_all]
  iintro ⟨⟨HB, Hv, Hu⟩, -⟩
  imod (Rounds.fund_launch ER (Rd (argsOf m)) cells_apart (fun g _ h => h) (Finset.univ.map payEmb)) $$ [Hv Hu] with ⟨%K, -, #Hinv, #Hr, Hat, Hopen, Htok⟩
  · isplitl [Hv]
    · iapply (Entails.of_eq (at_bars fun g => (semVal g 0 : sProp (MM F))).symm); iexact Hv
    · iexact Hu
  imodintro
  iapply (bigSep_with_persistent (R := known m K) (Φ := fun c => iprop(mine c ∗ rest m c)) fun c _ => T₀_intro m K c)
  isplitr
  · unfold known
    isplitr; · iapply (Entails.of_eq (inv_sorted m K)); iexact Hinv
    iapply (Entails.of_eq (at_bars fun g => (reached ER g 0 : sProp (MM F)))); iexact Hr
  rw [bigSep_sep']
  isplitr [HB]
  · unfold mine
    rw [bigSep_sep', bigSep_sep']
    isplitl [Hat]; · iapply (Entails.of_eq (at_bars fun g => (atPos ER g 0 ∅ 0 : sProp (MM F)))); iexact Hat
    isplitl [Hopen]; · iapply (Entails.of_eq (at_own fun g => (openTok ER g : sProp (MM F)))); iexact Hopen
    iapply (Entails.of_eq rights_dealt); iexact Htok
  iexact HB

/-! ## The run -/

/-- The host's operations touch only arrays that are held. -/
theorem ops_sub : ∀ op ∈ (hostOps0 : List (HloOp τ sig (Elt F))), op.bufs ⊆ bufs := by
  intro op h
  simp only [hostOps0, List.mem_cons, List.not_mem_nil, or_false] at h
  rcases h with rfl | rfl | rfl
  · exact (by decide : ({Proc.devRef .tc main_arg0, Proc.devRef .tc main_v1} : Finset (DevRef τ sig)) ⊆ bufs)
  · exact (by decide : ({Proc.devRef .tc main_arg2, Proc.devRef .tc main_v2} : Finset (DevRef τ sig)) ⊆ bufs)
  · exact (by decide : ({Proc.devRef .tc main_arg3, Proc.devRef .tc main_v3} : Finset (DevRef τ sig)) ⊆ bufs)

/-- The host's reshapes before the region. -/
def host : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (fun c b => m (c, b)) (R m)

/-- The program: the host's reshapes, then the region. -/
def segs : List (Pipeline.Seg (pcfgs (F := F)) adm (pdats m) () defs₀ 𝒱₀ L lv) := [.host (host m), .region (region m)]

/-- The region's arrays are held. -/
theorem arr_sub : Pipeline.arrRefs (τ := τ) spec0 ⊆ bufs := by decide

/-- What a device holds after the reshapes is what the region starts from. -/
theorem region_pre (c : Dev nD) : iprop(StableHlo.held (c : Thread nD τ) bufs (V₁ m c) ∗ R m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c.tc : Thread nD τ) arr_sub (V₁ m c), zero_add]
  unfold R Ow
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the region leaves is what a device holds at the end, owing nothing. -/
theorem region_post (c : Dev nD) : (region m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  unfold Tₙ
  rw [StableHlo.held_sub_split (c.tc : Thread nD τ) arr_sub (V₂ m c)]
  iintro ⟨Ha, -, ⟨Ho, -⟩, HY, HO⟩
  isplitl [Ha Ho HY]
  · isplitl [Ha Ho]
    · isplitl [Ha]; · iexact Ha
      iexact Ho
    iexact HY
  iexact HO

/-- The buffers one by one. -/
theorem bufs_each (c : Dev nD) (W : Valuation τ sig (Elt F)) :
    (StableHlo.held (c : Thread nD τ) bufs W : sProp (MM F))
      = iprop((((c : Thread nD τ).loc main_arg0) ↦{fullShare} W main_arg0) ∗ (((c : Thread nD τ).loc main_arg1) ↦{fullShare} W main_arg1) ∗ (((c : Thread nD τ).loc main_arg2) ↦{fullShare} W main_arg2)
        ∗ (((c : Thread nD τ).loc main_arg3) ↦{fullShare} W main_arg3) ∗ (((c : Thread nD τ).loc main_arg4) ↦{fullShare} W main_arg4) ∗ (((c : Thread nD τ).loc main_v1) ↦{fullShare} W main_v1)
        ∗ (((c : Thread nD τ).loc main_v2) ↦{fullShare} W main_v2) ∗ (((c : Thread nD τ).loc main_v3) ↦{fullShare} W main_v3) ∗ (((c : Thread nD τ).loc main_v4) ↦{fullShare} W main_v4)) := by
  unfold StableHlo.held
  rw [bigSep_eq_bigSepL_of_eq ([main_arg0, main_arg1, main_arg2, main_arg3, main_arg4, main_v1, main_v2, main_v3, main_v4].map (Proc.devRef (τ := τ) .tc)) (by decide) (by decide)]
  rfl

/-- The barrier is the only counter that outlives the launch. -/
theorem only_bar : ∀ sm : SemLoc sig, sm.isScoped .tc = false → sm = .reg barS := by decide

set_option backward.isDefEq.respectTransparency.types false in
/-- THE RUN: every execution of the program ends, with every argument as launched, every device's result at the
    kernel's output, and every semaphore at zero. -/
theorem run_main : θ_run defs (onTc (τ := τ) (main (F := F))) (s₀ m ρ)
    (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4) = outC (argsOf m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; rfl)
    (by simp only [segs, Pipeline.Seg.pipes_host, Pipeline.Seg.pipes_region, Pipeline.Seg.pipes_nil]; decide)
    (O₀ := O₀) (hL := L_of_ne) (G := stock) (u₀ := u₀)
    (hu₀ := by
      unfold u₀
      iintro Hu
      ihave H := (ownU_pair _ _) $$ Hu
      icases H with ⟨HP, HX⟩
      imodintro
      isplitl [HP]; · iexact HP
      rw [stock_all]
      iexact HX)
    (T₀ := T₀ m) (Tₙ := Tₙ m)
    (hch := ⟨fun c => .rfl, fun c => region_pre m c, fun c => region_post m c⟩)
    (hinit := init m ρ)
    (QY := fun c s => ((s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_arg3) = V₂ m c main_arg3
      ∧ s.mem ((c : Thread nD τ).loc main_arg4) = V₂ m c main_arg4) ∧ s.mem ((c : Thread nD τ).loc main_v4) = V₂ m c main_v4)
      ∧ s.sem (cell c barC) = 0)
    (hfin := fun c s' => by
      dsimp only [Tₙ]
      rw [bufs_each]
      unfold Yk
      iintro ⟨⟨⟨H0, H1, H2, H3, H4, -, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h5⟩, by simpa using hb⟩
      iexact HSI)
    (hQ := fun s h hs => ⟨fun c => by
        obtain ⟨⟨⟨h0, h1, h2, h3, h4⟩, h5⟩, -⟩ := h c
        exact ⟨⟨h0.trans ((V₂_ne m c _ (by decide)).trans (V_main_arg0 m c)), h1.trans ((V₂_ne m c _ (by decide)).trans (V_main_arg1 m c)),
          h2.trans ((V₂_ne m c _ (by decide)).trans (V_main_arg2 m c)), h3.trans ((V₂_ne m c _ (by decide)).trans (V_main_arg3 m c)),
          h4.trans ((V₂_ne m c _ (by decide)).trans (V_main_arg4 m c))⟩, h5.trans (V₂_out m c)⟩,
      sem_eq_zero hs fun c sm hsm => by
        obtain rfl := only_bar sm hsm
        exact (h c).2⟩)

end Cert.KernelIdeal.P

end
-- ==== Proof.Frames.lean ====
/- The frames of the three programs and the (empty) idealization, each read off a run. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.SL.Sem

/-- The two texts of the kernel have one body, … -/
theorem same_body : Cert.Kernel.cc0_body (F := Bits) = Cert.KernelIdeal.cc0_body (F := Bits) := by
  have h : Cert.Kernel.k0_part52 (F := Bits) = Cert.KernelIdeal.k0_part52 (F := Bits) := rfl
  unfold Cert.Kernel.cc0_body Cert.KernelIdeal.cc0_body
  rw [h]
  rfl

/-- … so one table of bodies, … -/
theorem same_table : Cert.Kernel.defs₀ (F := Bits) = Cert.KernelIdeal.defs₀ (F := Bits) := by
  unfold Cert.Kernel.defs₀ Cert.KernelIdeal.defs₀
  refine congrArg Defs.onTc ?_
  funext l
  fin_cases l
  funext a
  obtain ⟨t, s⟩ := a
  simp only []
  rw [same_body]

/-- … and one table of regions. -/
theorem same_defs : Cert.Kernel.defs (F := Bits) = Cert.KernelIdeal.defs (F := Bits) :=
  congrArg (Pipeline.defs Cert.KernelIdeal.pcfgs) same_table

/-- The kernel over machine floats leaves its arguments and its counters as it found them. -/
theorem frame_kernel : Cert.quiescent_Kernel := fun m ρ _ => by
  rw [same_defs]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).1, h.2⟩) (Cert.KernelIdeal.P.run_main (F := Bits) m ρ)

/-- So does the kernel over the extended reals. -/
theorem frame_ideal : Cert.quiescent_KernelIdeal := fun m ρ _ =>
  (θ_run Cert.KernelIdeal.defs _ _).mono (fun _ h => ⟨fun c => (h.1 c).1, h.2⟩) (Cert.KernelIdeal.P.run_main (F := Ideal) m ρ)

/-- The reference writes no argument, and has no counter to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation of the kernel is rewritten, so nothing is to be preserved. -/
theorem preserves : Cert.preserves_Kernel_KernelIdeal := trivial

end Cert.Proof
-- ==== Proof.Soft.lean ====
/-
  The softmax over the extended reals. Minus infinity in place of every score outside a set of columns changes neither
  the row's largest score nor the sum of its exponentials, so the weights are those over the set alone, and zero outside.
-/
module

public import Idealize.ShloMosaic.Lib.Pointwise
public import Idealize.ShloMosaic.Lib.IdealHost

@[expose] public section

noncomputable section

namespace Cert.Soft

open Idealize.ShloMosaic

/-- An extended real that is a real. -/
def IsReal (x : EReal) : Prop := ∃ r : ℝ, x = (r : EReal)

/-- A product of reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Zero is a real. -/
theorem IsReal.zero : IsReal 0 := ⟨0, rfl⟩

/-- A finite sum of reals is a real. -/
theorem IsReal.sum {ι : Type} (s : Finset ι) (f : ι → EReal) (h : ∀ i, IsReal (f i)) : IsReal (∑ i ∈ s, f i) := by
  classical
  refine Finset.induction_on s ⟨0, by simp⟩ fun a t ha ih => ?_
  rw [Finset.sum_insert ha]
  exact (h a).add ih

/-- The largest of a finite family, minus infinity where there is none. -/
def top {ι : Type} [Fintype ι] (f : ι → EReal) : EReal := Finset.univ.fold max ⊥ f

/-- The largest as a supremum. -/
theorem top_eq_sup {ι : Type} [Fintype ι] (f : ι → EReal) : top f = Finset.univ.sup f := rfl

/-- The largest of a family of reals is one of them. -/
theorem top_mem {ι : Type} [Fintype ι] [Nonempty ι] (f : ι → EReal) : ∃ i, top f = f i := by
  obtain ⟨i, -, h⟩ := Finset.exists_mem_eq_sup Finset.univ Finset.univ_nonempty f
  exact ⟨i, h⟩

/-- The weight of one score in a row: its exponential over the sum of the row's, each less the row's largest. -/
def weight {ι : Type} [Fintype ι] (f : ι → EReal) (i : ι) : EReal :=
  Ideal.div (Ideal.exp (f i - top f)) (∑ j, Ideal.exp (f j - top f))

section
variable {κ ι : Type} [Fintype κ] [Fintype ι] {e : κ → ι}

/-- Minus infinity outside the set does not change the largest. -/
theorem top_off (f : ι → EReal) (hoff : ∀ j, (¬ ∃ k, e k = j) → f j = ⊥) : top f = top fun k => f (e k) := by
  rw [top_eq_sup, top_eq_sup]
  apply le_antisymm
  · refine Finset.sup_le fun j _ => ?_
    by_cases hj : ∃ k, e k = j
    · obtain ⟨k, rfl⟩ := hj
      exact Finset.le_sup (f := fun k => f (e k)) (Finset.mem_univ k)
    · rw [hoff j hj]; exact bot_le
  · exact Finset.sup_le fun k _ => Finset.le_sup (f := f) (Finset.mem_univ (e k))

/-- Outside the set the exponential is zero. -/
theorem exp_off (f : ι → EReal) (hoff : ∀ j, (¬ ∃ k, e k = j) → f j = ⊥) (j : ι) (hj : ¬ ∃ k, e k = j) :
    Ideal.exp (f j - top f) = 0 := by
  rw [hoff j hj, EReal.bot_sub]
  rfl

/-- A sum of a family that is zero outside the set is the sum over the set. -/
theorem sum_off (he : Function.Injective e) (g : ι → EReal) (hg : ∀ j, (¬ ∃ k, e k = j) → g j = 0) :
    ∑ j, g j = ∑ k, g (e k) := (Fintype.sum_of_injective e he _ g (fun j hj => hg j fun ⟨k, hk⟩ => hj ⟨k, hk⟩) fun _ => rfl).symm

/-- An exponential is not negative. -/
theorem exp_nonneg (x : EReal) : 0 ≤ Ideal.exp x := by
  induction x using EReal.rec with
  | bot => exact le_refl _
  | top => exact le_top
  | coe r => exact EReal.coe_nonneg.mpr (_root_.Real.exp_pos r).le

/-- The sum of a row's exponentials is not zero where the row's scores are reals. -/
theorem den_ne_zero [Nonempty κ] (f : κ → EReal) (hf : ∀ k, IsReal (f k)) : ∑ k, Ideal.exp (f k - top f) ≠ 0 := by
  obtain ⟨k, hk⟩ := top_mem f
  intro h
  have h1 : Ideal.exp (f k - top f) ≤ 0 := h ▸ Finset.single_le_sum (f := fun k => Ideal.exp (f k - top f)) (fun i _ => exp_nonneg _) (Finset.mem_univ k)
  rw [hk] at h1
  obtain ⟨r, hr⟩ := hf k
  rw [hr, ← EReal.coe_sub, sub_self] at h1
  exact absurd h1 (not_le.mpr (by
    show (0 : EReal) < ((_root_.Real.exp 0 : ℝ) : EReal)
    rw [_root_.Real.exp_zero]
    exact EReal.coe_pos.mpr one_pos))

/-- The weighted sum over a row whose scores outside a set of columns are minus infinity is the weighted sum over the set. -/
theorem weighted (he : Function.Injective e) [Nonempty κ] (f : ι → EReal) (hf : ∀ k, IsReal (f (e k)))
    (hoff : ∀ j, (¬ ∃ k, e k = j) → f j = ⊥) (v : ι → EReal) :
    ∑ j, v j * weight f j = ∑ k, weight (fun k => f (e k)) k * v (e k) := by
  have ht := top_off f hoff
  have hs : ∑ j, Ideal.exp (f j - top f) = ∑ k, Ideal.exp (f (e k) - top fun k => f (e k)) := by
    rw [sum_off he _ (exp_off f hoff), ht]
  have hd := den_ne_zero (fun k => f (e k)) hf
  rw [sum_off he]
  · refine Finset.sum_congr rfl fun k _ => ?_
    rw [mul_comm]
    unfold weight
    rw [hs, ht]
  · intro j hj
    unfold weight
    rw [hs, exp_off f hoff j hj, Ideal.div, if_neg hd, zero_mul, mul_zero]

end

end Cert.Soft
-- ==== Proof.Pre.lean ====
/-
  The precondition: what the predicate says of each argument, element by element.
-/
module

public import proofs.«01_k».proof.Defs
public import proofs.«01_k».proof.Proof.Soft
public import Idealize.ShloMosaic.Lib.ReduceAll

@[expose] public section

noncomputable section

namespace Cert.Proof

open Idealize.ShloMosaic
open Cert.Soft (IsReal)

/-- The shape relations the predicate states over the kernel's arguments. -/
theorem pre_kernel_facts : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

/-- The shape relations the predicate states over the reference's arguments. -/
theorem pre_reference_facts : Cert.Pre_finite_scores_ReferenceIdeal.Facts where
  bcast_S_S2x256x512 := by decide
  reducesTo_S2x256x512_S_d0_1_2 := by decide
  h_S_ := by decide
  bcast_S_S512x256 := by decide
  reducesTo_S512x256_S_d0_1 := by decide
  bcast_S_S2x2048x4x64 := by decide
  reducesTo_S2x2048x4x64_S_d0_1_2_3 := by decide

/-- The word of plus infinity. -/
theorem ofBits_top : Ideal.ofBits .bf16 0x7F80#16 = ⊤ := by simp [Ideal.ofBits, Ideal.ieee]

/-- An element whose absolute value is below infinity is a real. -/
theorem real_of_lt {S : Shape} (hb : Cert.Pre_finite_scores_KernelIdeal.S_.BroadcastsInDim S ![]) (v : FVec Ideal S .bf16) (i : S.Idx)
    (h : cmpf .olt (Host.absf v) (broadcastInDim S ![] hb (constant Cert.Pre_finite_scores_KernelIdeal.S_ .bf16 0x7F80#16)) i = 1#1) :
    IsReal (v i) := by
  have h : BitVec.ofBool (decide (max (v i) (-(v i)) < Ideal.ofBits .bf16 0x7F80#16)) = 1#1 := h
  rw [ofBits_top] at h
  generalize v i = y at h
  induction y using EReal.rec with
  | bot => simp at h
  | top => simp at h
  | coe r => exact ⟨r, rfl⟩

attribute [local instance] pre_kernel_facts

/-- Where the predicate holds, the queries, their weights and the keys are reals. -/
theorem pre_real (x : FVec Ideal Cert.Pre_finite_scores_KernelIdeal.S2x256x512 .bf16) (wq : FVec Ideal Cert.Pre_finite_scores_KernelIdeal.S512x256 .bf16)
    (k v : FVec Ideal Cert.Pre_finite_scores_KernelIdeal.S2x256x4x64 .bf16) (wo : FVec Ideal Cert.Pre_finite_scores_KernelIdeal.S256x512 .bf16)
    (h : Cert.Pre_finite_scores_KernelIdeal.fn x wq k v wo = fun _ => 1#1) :
    (∀ i, IsReal (x i)) ∧ (∀ i, IsReal (wq i)) ∧ ∀ i, IsReal (k i) := by
  have h0 := congrFun h ix0
  dsimp only [Cert.Pre_finite_scores_KernelIdeal.fn] at h0
  have and1 : ∀ a b : BitVec 1, IntOp.andi a b = 1#1 → a = 1#1 ∧ b = 1#1 := by decide
  obtain ⟨h1, hk⟩ := and1 _ _ h0
  obtain ⟨hx, hq⟩ := and1 _ _ h1
  exact ⟨fun i => real_of_lt _ x i (Host.reduce_andi_all _ _ _ _ _ hx i), fun i => real_of_lt _ wq i (Host.reduce_andi_all _ _ _ _ _ hq i),
    fun i => real_of_lt _ k i (Host.reduce_andi_all _ _ _ _ _ hk i)⟩

end Cert.Proof
-- ==== Proof.KerAt.lean ====
/-
  What the kernel's array holds, read at an index over the extended reals.
-/
module

public import proofs.«01_k».proof.Proof.Places
public import proofs.«01_k».proof.Proof.Soft

@[expose] public section

set_option maxRecDepth 16384

noncomputable section

namespace Cert.KernelIdeal.P

open Idealize.ShloMosaic Idealize.ShloMosaic.TcCoe Idealize.SL.Sem
open Cert.KernelIdeal Cert.KernelIdeal.Gen
open Cert.Soft (top weight)

/-- The positions a reduction over the blocks and the keys leaves at a query row. -/
theorem fiber (r : Fin 64) (i : S8x64x64.Idx) :
    reduces_S8x64x64_S64.drop i = ix1 r ↔ ∃ k : Fin 8 × Fin 64, ix3 k.1 r k.2 = i := by
  constructor
  · intro e
    refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- Different blocks and keys are different positions. -/
theorem fiber_inj (r : Fin 64) : Function.Injective fun k : Fin 8 × Fin 64 => (ix3 k.1 r k.2 : S8x64x64.Idx) :=
  fun _ _ e => Prod.ext (congrFun e 0) (congrFun e 2)

/-- The scaled scores of one head. -/
def scaled (s : Vec Ideal S1x8x64x64 .f32) (i : Fin 64) (k : Fin 8 × Fin 64) : EReal :=
  s (ix4 0 k.1 i k.2) * Ideal.ofBits .f32 0x3E000000#32

/-- The word of minus infinity. -/
theorem ofBits_bot : Ideal.ofBits .f32 0xFF800000#32 = ⊥ := by simp [Ideal.ofBits, Ideal.ieee]

/-- The weights of one head: the softmax of its scaled scores over the blocks and the keys. -/
theorem weights_at (s : Vec Ideal S1x8x64x64 .f32) (o : Fin 8) (i u : Fin 64) :
    weights s (ix3 o i u) = weight (scaled s i) (o, u) := by
  pointwise [weights, k0_pay127]
  rw [Finset.fold_filter_eq_fold_of_fiber max _ _ (fiber_inj i) (fiber i)]
  unfold Ideal.reduceAdd weight
  rw [Finset.sum_filter_eq_sum_of_fiber _ _ (fiber_inj i) (fiber i), ofBits_bot]
  congr 1
  refine Finset.sum_congr rfl fun k _ => ?_
  pointwise []
  rw [Finset.fold_filter_eq_fold_of_fiber max _ _ (fiber_inj i) (fiber i)]
  rfl

/-- One block's term added to the accumulator. -/
theorem accBlk_at (P : FVec Ideal S8x64x64 .bf16) (c : ℕ) (h8 : c < 8) (hc : S8x64x64.Slices ![c, 0, 0] S1x64x64)
    (v : Vec Ideal S1x1x64x64 .bf16) (a : FVec Ideal S64x64 .f32) (i n : Fin 64) :
    accBlk P c hc v a (ix2 i n) = a (ix2 i n) + ∑ u : Fin 64, P (ix3 ⟨c, h8⟩ i u) * v (ix4 0 0 u n) := by
  pointwise [accBlk]

/-- What one head stores: the weighted sum of the values over the blocks and the keys. -/
theorem ctxHead_at (s : Vec Ideal S1x8x64x64 .f32) (v : Fin 8 → Vec Ideal S1x1x64x64 .bf16) (i n : Fin 64) :
    ctxHead s v (ix2 i n) = ∑ k : Fin 8 × Fin 64, weight (scaled s i) k * v k.1 (ix4 0 0 k.2 n) := by
  rw [Fintype.sum_prod_type]
  pointwise [ctxHead]
  rw [accBlk_at _ 7 (by decide), accBlk_at _ 6 (by decide), accBlk_at _ 5 (by decide), accBlk_at _ 4 (by decide),
    accBlk_at _ 3 (by decide), accBlk_at _ 2 (by decide), accBlk_at _ 1 (by decide), accBlk_at _ 0 (by decide)]
  simp only [Fin.sum_univ_eight, weights_at]
  rw [show broadcast S64x64 (0 : EReal) (ix2 i n) = 0 from rfl, zero_add]
  rfl

variable (A : Args Ideal)

/-- The query rows of a device. -/
theorem q_at (c : Fin 8) (i : Fin 64) (n : Fin 256) : qC A c (ix2 i n) =
    ∑ t : Fin 512, A.x c (ix2 ⟨64 * c.val + i.val, by omega⟩ t) * A.wq c (ix2 t n) := by
  have e : ∀ t : Fin 512, (xR c).emb (ix2 i t) = ix2 ⟨64 * c.val + i.val, by omega⟩ t := by
    intro t
    funext a
    apply Fin.ext
    match a with
    | ⟨0, _⟩ => show 64 * c.val + 1 * i.val = 64 * c.val + i.val; omega
    | ⟨1, _⟩ => show 0 + 1 * t.val = t.val; omega
  pointwise [qC, k0_pay79]
  simp only [e]

/-- A head's score product. -/
theorem scPay_at (q : FVec Ideal S64x256 .bf16) (k : Vec Ideal S1x1x64x64 .bf16) (h : Fin 4) (i u : Fin 64) :
    scPay h q k (ix4 0 0 i u) = ∑ t : Fin 64, q (ix2 i ⟨h.val * 64 + t.val, by omega⟩) * k (ix4 0 0 u t) := by
  match h with
  | 0 => show k0_pay85 q k _ = _; pointwise [k0_pay85]
  | 1 => show k0_pay82 q k _ = _; pointwise [k0_pay82]
  | 2 => show k0_pay83 q k _ = _; pointwise [k0_pay83]
  | 3 => show k0_pay84 q k _ = _; pointwise [k0_pay84]

/-- One head's columns of a block of the landing buffer. -/
theorem kv_at (c o : Fin 8) (t : Fin 2) (h : Fin 4) (u n : Fin 64) :
    khC A c o t h (ix4 0 0 u n) = A.kv o t (ix3 ⟨64 * c.val + u.val, by omega⟩ h n) := by
  have e0 : (khR o t h).emb (ix4 0 0 u n) 0 = o := Fin.ext (show o.val + 1 * 0 = o.val by omega)
  have e1 : (khR o t h).emb (ix4 0 0 u n) 1 = t := Fin.ext (show t.val + 1 * 0 = t.val by omega)
  have e2 : ((khR o t h).emb (ix4 0 0 u n) 2).val = u.val := show 0 + 1 * u.val = u.val by omega
  have e3 : ((khR o t h).emb (ix4 0 0 u n) 3).val = 64 * h.val + n.val := show 64 * h.val + 1 * n.val = 64 * h.val + n.val by omega
  show A.kv ((khR o t h).emb (ix4 0 0 u n) 0) ((khR o t h).emb (ix4 0 0 u n) 1) _ = _
  rw [e0, e1]
  congr 1
  funext a
  apply Fin.ext
  match a with
  | ⟨0, _⟩ => show 64 * c.val + ((khR o t h).emb (ix4 0 0 u n) 2).val = 64 * c.val + u.val; rw [e2]
  | ⟨1, _⟩ => show ((khR o t h).emb (ix4 0 0 u n) 3).val / 64 = h.val; rw [e3]; omega
  | ⟨2, _⟩ => show ((khR o t h).emb (ix4 0 0 u n) 3).val % 64 = n.val; rw [e3]; omega

/-- The scaled score of device `c`'s row `i` and origin `o`'s key `u`. -/
def ownScore (c : Fin 8) (h : Fin 4) (i : Fin 64) (k : Fin 8 × Fin 64) : EReal :=
  (∑ t : Fin 64, qC A c (ix2 i ⟨h.val * 64 + t.val, by omega⟩) * A.kv k.1 0 (ix3 ⟨64 * c.val + k.2.val, by omega⟩ h t)) *
    Ideal.ofBits .f32 0x3E000000#32

/-- What a device stores for a head: the softmax of its scores, times its values. -/
theorem hd_at (c : Fin 8) (h : Fin 4) (i n : Fin 64) : hdC A c h (ix2 i n) =
    ∑ k : Fin 8 × Fin 64, weight (ownScore A c h i) k * A.kv k.1 1 (ix3 ⟨64 * c.val + k.2.val, by omega⟩ h n) := by
  have hs : scaled (fun i => scC A c ((shR h).emb i)) i = ownScore A c h i := by
    funext k
    have e : (shR h).emb (ix4 0 k.1 i k.2) = ix4 h k.1 i k.2 := by
      funext a
      apply Fin.ext
      match a with
      | ⟨0, _⟩ => show h.val + 1 * 0 = h.val; omega
      | ⟨1, _⟩ => show 0 + 1 * k.1.val = k.1.val; omega
      | ⟨2, _⟩ => show 0 + 1 * i.val = i.val; omega
      | ⟨3, _⟩ => show 0 + 1 * k.2.val = k.2.val; omega
    unfold scaled ownScore
    show scC A c ((shR h).emb (ix4 0 k.1 i k.2)) * _ = _
    rw [e]
    congr 1
    show scPay h (qC A c) (khC A c k.1 0 h) (ix4 0 0 i k.2) = _
    rw [scPay_at]
    simp only [kv_at]
  unfold hdC
  rw [ctxHead_at, hs]
  simp only [kv_at]

/-- The result at a row and a column. -/
theorem out_at (c : Fin 8) (b : Fin 2) (i : Fin 256) (n : Fin 512) : outC A c (ix3 b i n) =
    ∑ t : Fin 256, hdC A (⟨(b.val * 256 + i.val) / 64, by omega⟩ : Fin 8) ⟨t.val / 64, by omega⟩ (ix2 ⟨(b.val * 256 + i.val) % 64, by omega⟩ ⟨t.val % 64, by omega⟩) *
      A.wo c (ix2 t n) := by
  pointwise [outC, k0_pay1]
  rfl

end Cert.KernelIdeal.P
-- ==== Proof.RefText.lean ====
/-
  The reference's text in stages: the block numbers and the mask, the scores, the weights, the context, the output. Each
  stage is a function of the one before; together they are the composed term the reference's run ends with.
-/
module

public import proofs.«01_k».proof.Proof.Gen.ReferenceIdeal.Run
public import Idealize.ShloMosaic.Lib.Pointwise

@[expose] public section

noncomputable section

namespace Cert.ReferenceIdeal.P

open Idealize.ShloMosaic Idealize.ShloMosaic.TcCoe Idealize.SL.Sem
open Cert.ReferenceIdeal Cert.ReferenceIdeal.Gen

/-- The quotient by 64, rounded down, of each word. -/
def by64 {S : Shape} (hb : S_.BroadcastsInDim S ![]) (v : IVec S 32) : IVec S 32 :=
  select (andi (cmpi .ne (signi v) (broadcastInDim S ![] hb (signi (id (constantI S_ 32 64#32)))))
      (cmpi .ne (Host.remsi v (broadcastInDim S ![] hb (id (constantI S_ 32 64#32)))) (broadcastInDim S ![] hb (constantI S_ 32 0#32))))
    (subi (Host.divsi v (broadcastInDim S ![] hb (id (constantI S_ 32 64#32)))) (broadcastInDim S ![] hb (constantI S_ 32 1#32)))
    (Host.divsi v (broadcastInDim S ![] hb (id (constantI S_ 32 64#32))))

/-- The divisor four, guarded against zero. -/
def four : IVec S_ 32 := select (cmpi .eq (id (constantI S_ 32 4#32)) (constantI S_ 32 0#32)) (constantI S_ 32 1#32) (id (constantI S_ 32 4#32))

/-- The remainder by four of each word, with the divisor's sign. -/
def mod4 {S : Shape} (hb : S_.BroadcastsInDim S ![]) (v : IVec S 32) : IVec S 32 :=
  select (andi (cmpi .ne (cmpi .slt (Host.remsi v (broadcastInDim S ![] hb four)) (broadcastInDim S ![] hb (constantI S_ 32 0#32)))
        (broadcastInDim S ![] hb (cmpi .slt four (constantI S_ 32 0#32))))
      (cmpi .ne (Host.remsi v (broadcastInDim S ![] hb four)) (broadcastInDim S ![] hb (constantI S_ 32 0#32))))
    (addi (Host.remsi v (broadcastInDim S ![] hb four)) (broadcastInDim S ![] hb four))
    (Host.remsi v (broadcastInDim S ![] hb four))

/-- The block number of each query row. -/
def qb : IVec S256x1 32 := broadcastInDim S256x1 ![0] bcast_S256_S256x1_0 (by64 bcast_S_S256 (iotaInDim S256 32 0))

/-- The block number of each key. -/
def kb : IVec S1x2048 32 := broadcastInDim S1x2048 ![1] bcast_S2048_S1x2048_1 (by64 bcast_S_S2048 (iotaInDim S2048 32 0))

/-- Which keys a query row sees. -/
def mask : IVec S256x2048 1 :=
  ori (cmpi .eq (broadcastInDim S256x2048 ![0, 1] bcast_S256x1_S256x2048_0_1 qb) (broadcastInDim S256x2048 ![0, 1] bcast_S1x2048_S256x2048_0_1 kb))
    (cmpi .eq (broadcastInDim S256x2048 ![0, 1] bcast_S1x2048_S256x2048_0_1 (mod4 bcast_S_S1x2048 kb))
      (broadcastInDim S256x2048 ![0, 1] bcast_S256x1_S256x2048_0_1 (mod4 bcast_S_S256x1 qb)))

/-- Whether a query row sees any key. -/
def keep : IVec S1x1x256x1 1 :=
  broadcastInDim S1x1x256x1 ![2] bcast_S256_S1x1x256x1_2 (Host.reduce IntOp.ori mask (constantI S_ 1 0#1) reducesTo_S256x2048_S256_d1 h_S_)

variable {F : FTy → Type} [FloatOps F]

/-- The scaled scores. -/
def scores (x : FVec F S2x256x512 .bf16) (wq : FVec F S512x256 .bf16) (k : FVec F S2x2048x4x64 .bf16) : FVec F S2x4x256x2048 .f32 :=
  mulf (extf .f32 (truncf .bf16 (Host.dotGeneral dot_S2x256x4x64_S2x2048x4x64_S2x4x256x2048_3_3_1_1_02_02 none
      (shapeCast _ (truncf .bf16 (Host.dotGeneral dot_S2x256x512_S512x256_S2x256x256_2_0_01_1_n_n none x wq) bitsLt_bf16_f32) shapeCasts_S2x256x256_S2x256x4x64)
      k) bitsLt_bf16_f32) bitsLt_bf16_f32)
    (broadcastInDim S2x4x256x2048 ![] bcast_S_S2x4x256x2048 (constant S_ .f32 0x3E000000#32))

/-- The scores, minus infinity where the row does not see the key. -/
def masked (s : FVec F S2x4x256x2048 .f32) : FVec F S2x4x256x2048 .f32 :=
  select (broadcastInDim S2x4x256x2048 ![0, 1, 2, 3] bcast_S1x1x256x2048_S2x4x256x2048_0_1_2_3
      (broadcastInDim S1x1x256x2048 ![2, 3] bcast_S256x2048_S1x1x256x2048_2_3 mask)) s
    (broadcastInDim S2x4x256x2048 ![] bcast_S_S2x4x256x2048 (id (constant S_ .f32 0xFF800000#32)))

/-- The exponential of each score less its row's largest. -/
def expo (s : FVec F S2x4x256x2048 .f32) : FVec F S2x4x256x2048 .f32 :=
  Host.exp (subf s (broadcastInDim S2x4x256x2048 ![0, 1, 2, 3] bcast_S2x4x256x1_S2x4x256x2048_0_1_2_3
    (broadcastInDim S2x4x256x1 ![0, 1, 2] bcast_S2x4x256_S2x4x256x1_0_1_2
      (Host.reduce FloatOps.maximumf s (constant S_ .f32 0xFF800000#32) reducesTo_S2x4x256x2048_S2x4x256_d3 h_S_))))

/-- The weights: each row's exponentials over their sum, zero in a row that sees nothing. -/
def soft (w : FVec F S2x4x256x2048 .f32) : FVec F S2x4x256x2048 .f32 :=
  select (broadcastInDim S2x4x256x2048 ![0, 1, 2, 3] bcast_S1x1x256x1_S2x4x256x2048_0_1_2_3 keep)
    (Host.divf w (broadcastInDim S2x4x256x2048 ![0, 1, 2, 3] bcast_S2x4x256x1_S2x4x256x2048_0_1_2_3
      (select (broadcastInDim S2x4x256x1 ![0, 1, 2, 3] bcast_S1x1x256x1_S2x4x256x1_0_1_2_3 keep)
        (broadcastInDim S2x4x256x1 ![0, 1, 2] bcast_S2x4x256_S2x4x256x1_0_1_2
          (Host.reduceAdd w (constant S_ .f32 0x00000000#32) reducesTo_S2x4x256x2048_S2x4x256_d3 h_S_))
        (broadcastInDim S2x4x256x1 ![] bcast_S_S2x4x256x1 (id (constant S_ .f32 0x3F800000#32))))))
    (broadcastInDim S2x4x256x2048 ![] bcast_S_S2x4x256x2048 (id (constant S_ .f32 0x00000000#32)))

/-- The weights times the values, and the product with the output weights. -/
def output (p : FVec F S2x4x256x2048 .f32) (v : FVec F S2x2048x4x64 .bf16) (wo : FVec F S256x512 .bf16) : FVec F S2x256x512 .bf16 :=
  truncf .bf16 (Host.dotGeneral dot_S2x256x256_S256x512_S2x256x512_2_0_01_1_n_n none (shapeCast _ (transpose S2x256x4x64 [0, 3, 1, 2]
    (Host.dotGeneral dot_S2x2048x4x64_S2x4x256x2048_S2x4x64x256_1_3_3_2_02_01 none (extf .f32 v bitsLt_bf16_f32) p)
    transposes_S2x4x64x256_S2x256x4x64_0_3_1_2) shapeCasts_S2x256x4x64_S2x256x256) (extf .f32 wo bitsLt_bf16_f32)) bitsLt_bf16_f32

/-- The reference's result is the stages composed. -/
theorem stages (m : (ℓ : Loc nD τ sig) → Buf (Elt F) ℓ) (c : Dev nD) : Value.res_main_v45 m c =
    output (soft (expo (masked (scores (m ((c.tc : Thread nD τ).loc main_arg0)) (m ((c.tc : Thread nD τ).loc main_arg1))
      (m ((c.tc : Thread nD τ).loc main_arg2)))))) (m ((c.tc : Thread nD τ).loc main_arg3)) (m ((c.tc : Thread nD τ).loc main_arg4)) := by
  unfold Value.res_main_v45
  rfl

end Cert.ReferenceIdeal.P
-- ==== Proof.RefAt.lean ====
/-
  The reference's stages read at an index, over the extended reals.
-/
module

public import proofs.«01_k».proof.Proof.RefText
public import proofs.«01_k».proof.Proof.Soft
public import Idealize.ShloMosaic.Lib.Routing.OpsOrder
public import Idealize.ShloMosaic.Lib.IdealHost

@[expose] public section

set_option maxRecDepth 16384

noncomputable section

namespace Cert.ReferenceIdeal.P

open Idealize.ShloMosaic Idealize.ShloMosaic.TcCoe Idealize.SL.Sem
open Idealize.ShloMosaic.Routing (fold_ori)
open Cert.ReferenceIdeal Cert.ReferenceIdeal.Gen
open Cert.Soft (top weight)

/-- A query row's block number. -/
theorem qb_at (i : Fin 256) : qb (ix2 i 0) = BitVec.ofNat 32 (i.val / 64) := by
  pointwise [qb, by64]
  revert i
  decide +kernel

/-- A key's block number. -/
theorem kb_at (j : Fin 2048) : kb (ix2 0 j) = BitVec.ofNat 32 (j.val / 64) := by
  pointwise [kb, by64]
  revert j
  decide +kernel

/-- The remainder by four of a small number's word. -/
theorem mod4_at {S : Shape} (hb : S_.BroadcastsInDim S ![]) (v : IVec S 32) (x : S.Idx) (a : Fin 32)
    (hv : v x = BitVec.ofNat 32 a.val) : mod4 hb v x = BitVec.ofNat 32 (a.val % 4) := by
  have hf : four = fun _ => 4#32 := rfl
  have hr : Host.remsi v (broadcastInDim S ![] hb four) x = IntOp.remsi .host (BitVec.ofNat 32 a.val) 4#32 := by
    rw [hf, ← hv]
    rfl
  have hs : mod4 hb v x = Scalar.select (IntOp.andi (IntOp.cmpi .ne (IntOp.cmpi .slt (Host.remsi v (broadcastInDim S ![] hb four) x) 0#32) (IntOp.cmpi .slt 4#32 0#32))
      (IntOp.cmpi .ne (Host.remsi v (broadcastInDim S ![] hb four) x) 0#32))
      (IntOp.addi (Host.remsi v (broadcastInDim S ![] hb four) x) 4#32) (Host.remsi v (broadcastInDim S ![] hb four) x) := by
    rw [hf]
    rfl
  rw [hs, hr]
  clear hs hr hf
  clear hv
  revert a
  decide +kernel

/-- A query row sees exactly the keys of its own block number modulo four. -/
theorem mask_at (i : Fin 256) (j : Fin 2048) : mask (ix2 i j) = BitVec.ofBool (decide (j.val / 64 % 4 = i.val / 64)) := by
  have h1 := mod4_at bcast_S_S1x2048 kb (ix2 0 j) ⟨j.val / 64, by omega⟩ (kb_at j)
  have h2 := mod4_at bcast_S_S256x1 qb (ix2 i 0) ⟨i.val / 64, by omega⟩ (qb_at i)
  pointwise [mask]
  rw [h1, h2, qb_at, kb_at]
  have key : ∀ (a : Fin 4) (b : Fin 32), IntOp.ori (IntOp.cmpi .eq (BitVec.ofNat 32 a.val) (BitVec.ofNat 32 b.val))
      (IntOp.cmpi .eq (BitVec.ofNat 32 (b.val % 4)) (BitVec.ofNat 32 (a.val % 4))) = BitVec.ofBool (decide (b.val % 4 = a.val)) := by
    decide +kernel
  exact key ⟨i.val / 64, by omega⟩ ⟨j.val / 64, by omega⟩

/-- Every query row sees some key. -/
theorem keep_at (i : Fin 256) : keep (ix4 0 0 i 0) = 1#1 := by
  pointwise [keep]
  rw [fold_ori]
  refine ⟨⟨i.val, by omega⟩, Finset.mem_univ _, ?_⟩
  rw [mask_at, decide_eq_true (by show i.val / 64 % 4 = i.val / 64; omega)]
  rfl

/-- The projected query, one row and one column of the four heads'. -/
def queryAt (x : FVec Ideal S2x256x512 .bf16) (wq : FVec Ideal S512x256 .bf16) (b : Fin 2) (i : Fin 256) (n : Fin 256) : EReal :=
  ∑ t : Fin 512, x (ix3 b i t) * wq (ix2 t n)

/-- The scaled score of a query row and a key in a head. -/
def scoreAt (x : FVec Ideal S2x256x512 .bf16) (wq : FVec Ideal S512x256 .bf16) (k : FVec Ideal S2x2048x4x64 .bf16)
    (b : Fin 2) (h : Fin 4) (i : Fin 256) (j : Fin 2048) : EReal :=
  (∑ t : Fin 64, queryAt x wq b i ⟨h.val * 64 + t.val, by omega⟩ * k (ix4 b j h t)) * Ideal.ofBits .f32 0x3E000000#32

/-- A scaled score. -/
theorem scores_at (x : FVec Ideal S2x256x512 .bf16) (wq : FVec Ideal S512x256 .bf16) (k : FVec Ideal S2x2048x4x64 .bf16)
    (b : Fin 2) (h : Fin 4) (i : Fin 256) (j : Fin 2048) : scores x wq k (ix4 b h i j) = scoreAt x wq k b h i j := by
  pointwise [scores]
  rfl

/-- The word of minus infinity. -/
theorem ofBits_bot : Ideal.ofBits .f32 0xFF800000#32 = ⊥ := by simp [Ideal.ofBits, Ideal.ieee]

/-- A masked score. -/
theorem masked_at (s : FVec Ideal S2x4x256x2048 .f32) (b : Fin 2) (h : Fin 4) (i : Fin 256) (j : Fin 2048) :
    masked s (ix4 b h i j) = if j.val / 64 % 4 = i.val / 64 then s (ix4 b h i j) else ⊥ := by
  pointwise [masked]
  rw [mask_at]
  have hb : (id (constant (F := Ideal) S_ .f32 0xFF800000#32) ix0 : EReal) = ⊥ := ofBits_bot
  rw [hb]
  by_cases hj : j.val / 64 % 4 = i.val / 64 <;> simp [hj, Scalar.select]

/-- A row's weights: the softmax of its scores. -/
theorem soft_at (s : FVec Ideal S2x4x256x2048 .f32) (b : Fin 2) (h : Fin 4) (i : Fin 256) (j : Fin 2048) :
    soft (expo s) (ix4 b h i j) = weight (fun j => s (ix4 b h i j)) j := by
  have he : ∀ j, expo s (ix4 b h i j) = Ideal.exp (s (ix4 b h i j) - top fun j => s (ix4 b h i j)) := by
    intro j
    pointwise [expo]
    rw [ofBits_bot]
    rfl
  pointwise [soft]
  rw [keep_at]
  simp only [he, Scalar.select]
  rfl

/-- The result at a row and a column. -/
theorem output_at (p : FVec Ideal S2x4x256x2048 .f32) (v : FVec Ideal S2x2048x4x64 .bf16) (wo : FVec Ideal S256x512 .bf16)
    (b : Fin 2) (i : Fin 256) (n : Fin 512) : output p v wo (ix3 b i n) =
      ∑ t : Fin 256, (∑ j : Fin 2048, v (ix4 b j ⟨t.val / 64, by omega⟩ ⟨t.val % 64, by omega⟩) * p (ix4 b ⟨t.val / 64, by omega⟩ i j)) * wo (ix2 t n) := by
  pointwise [output]

end Cert.ReferenceIdeal.P
-- ==== Proof.Equation.lean ====
/-
  The equation: where the devices hold their parts of the reference's arguments, what each returns is the reference's
  result. A row of device `c` belongs to one batch and one block number, and the keys it reads from the eight origins are
  the keys the reference's mask leaves it.
-/
module

public import proofs.«01_k».proof.Proof.KerAt
public import proofs.«01_k».proof.Proof.RefAt

@[expose] public section

set_option maxRecDepth 16384

noncomputable section

namespace Cert.Proof

open Idealize.ShloMosaic
open Cert.Soft

/-- What the devices hold of the reference's arguments. -/
structure Shares (A : Cert.KernelIdeal.P.Args Ideal) (X : FVec Ideal Cert.ReferenceIdeal.S2x256x512 .bf16)
    (WQ : FVec Ideal Cert.ReferenceIdeal.S512x256 .bf16) (KV : Fin 2 → FVec Ideal Cert.ReferenceIdeal.S2x2048x4x64 .bf16)
    (WO : FVec Ideal Cert.ReferenceIdeal.S256x512 .bf16) : Prop where
  /-- Every device holds the queries, the batches one after the other. -/
  x : ∀ (c : Fin 8) (r t : Fin 512), A.x c (ix2 r t) = X (ix3 ⟨r.val / 256, by omega⟩ ⟨r.val % 256, by omega⟩ t)
  /-- Every device holds the query weights. -/
  wq : ∀ c : Fin 8, A.wq c = WQ
  /-- Origin `o` holds its 256 of each batch's keys and values. -/
  kv : ∀ (o : Fin 8) (t : Fin 2) (r : Fin 512) (h : Fin 4) (n : Fin 64),
    A.kv o t (ix3 r h n) = KV t (ix4 ⟨r.val / 256, by omega⟩ ⟨256 * o.val + r.val % 256, by omega⟩ h n)
  /-- Every device holds the output weights. -/
  wo : ∀ c : Fin 8, A.wo c = WO
  /-- The queries are reals. -/
  rx : ∀ i, IsReal (X i)
  /-- The query weights are reals. -/
  rq : ∀ i, IsReal (WQ i)
  /-- The keys are reals. -/
  rk : ∀ i, IsReal (KV 0 i)

/-- The key that row `i` sees from origin `k.1` at place `k.2`. -/
def seen (i : Fin 256) (k : Fin 8 × Fin 64) : Fin 2048 := ⟨256 * k.1.val + 64 * (i.val / 64) + k.2.val, by omega⟩

/-- Different places are different keys. -/
theorem seen_inj (i : Fin 256) : Function.Injective (seen i) := by
  intro k l e
  have e : 256 * k.1.val + 64 * (i.val / 64) + k.2.val = 256 * l.1.val + 64 * (i.val / 64) + l.2.val := congrArg Fin.val e
  exact Prod.ext (Fin.ext (by omega)) (Fin.ext (by omega))

/-- The keys a row sees are the keys of its block number modulo four. -/
theorem seen_iff (i : Fin 256) (j : Fin 2048) : (∃ k, seen i k = j) ↔ j.val / 64 % 4 = i.val / 64 := by
  constructor
  · rintro ⟨k, rfl⟩
    show (256 * k.1.val + 64 * (i.val / 64) + k.2.val) / 64 % 4 = i.val / 64
    omega
  · intro h
    refine ⟨(⟨j.val / 256, by omega⟩, ⟨j.val % 64, by omega⟩), Fin.ext ?_⟩
    show 256 * (j.val / 256) + 64 * (i.val / 64) + j.val % 64 = j.val
    omega

variable {A : Cert.KernelIdeal.P.Args Ideal} {X : FVec Ideal Cert.ReferenceIdeal.S2x256x512 .bf16}
  {WQ : FVec Ideal Cert.ReferenceIdeal.S512x256 .bf16} {KV : Fin 2 → FVec Ideal Cert.ReferenceIdeal.S2x2048x4x64 .bf16}
  {WO : FVec Ideal Cert.ReferenceIdeal.S256x512 .bf16}

/-- The key or the value that device `c` reads from an origin, in the reference's array. -/
theorem Shares.kv_seen (S : Shares A X WQ KV WO) (c : Fin 8) (b : Fin 2) (i : Fin 256) (hc : c.val = 4 * b.val + i.val / 64)
    (t : Fin 2) (k : Fin 8 × Fin 64) (h : Fin 4) (n : Fin 64) :
    A.kv k.1 t (ix3 ⟨64 * c.val + k.2.val, by omega⟩ h n) = KV t (ix4 b (seen i k) h n) := by
  rw [S.kv]
  have e0 : (⟨(64 * c.val + k.2.val) / 256, by omega⟩ : Fin 2) = b := Fin.ext (by show (64 * c.val + k.2.val) / 256 = b.val; omega)
  have e1 : (⟨256 * k.1.val + (64 * c.val + k.2.val) % 256, by omega⟩ : Fin 2048) = seen i k :=
    Fin.ext (by show 256 * k.1.val + (64 * c.val + k.2.val) % 256 = 256 * k.1.val + 64 * (i.val / 64) + k.2.val; omega)
  rw [e0, e1]

/-- The query row that device `c` projects, in the reference's array. -/
theorem Shares.query (S : Shares A X WQ KV WO) (c : Fin 8) (b : Fin 2) (i : Fin 256) (hc : c.val = 4 * b.val + i.val / 64)
    (n : Fin 256) : Cert.KernelIdeal.P.qC A c (ix2 ⟨i.val % 64, by omega⟩ n) = Cert.ReferenceIdeal.P.queryAt X WQ b i n := by
  rw [Cert.KernelIdeal.P.q_at, S.wq]
  refine Finset.sum_congr rfl fun t _ => ?_
  rw [S.x]
  have e0 : (⟨(64 * c.val + i.val % 64) / 256, by omega⟩ : Fin 2) = b := Fin.ext (by show (64 * c.val + i.val % 64) / 256 = b.val; omega)
  have e1 : (⟨(64 * c.val + i.val % 64) % 256, by omega⟩ : Fin 256) = i := Fin.ext (by show (64 * c.val + i.val % 64) % 256 = i.val; omega)
  rw [e0, e1]

/-- Device `c`'s score of a row and a place is the reference's score of the row and the key. -/
theorem Shares.score (S : Shares A X WQ KV WO) (c : Fin 8) (b : Fin 2) (i : Fin 256) (hc : c.val = 4 * b.val + i.val / 64)
    (h : Fin 4) (k : Fin 8 × Fin 64) : Cert.KernelIdeal.P.ownScore A c h ⟨i.val % 64, by omega⟩ k =
      Cert.ReferenceIdeal.P.scoreAt X WQ (KV 0) b h i (seen i k) := by
  unfold Cert.KernelIdeal.P.ownScore Cert.ReferenceIdeal.P.scoreAt
  congr 1
  refine Finset.sum_congr rfl fun t _ => ?_
  rw [S.query c b i hc, S.kv_seen c b i hc]

/-- The scale is a real. -/
theorem scale_real : IsReal (Ideal.ofBits .f32 0x3E000000#32) := by
  refine ⟨1 / 8, ?_⟩
  simp [Ideal.ofBits, Ideal.ieee]
  rw [← EReal.coe_mul]
  congr 1
  norm_num

/-- The reference's scores are reals. -/
theorem Shares.score_real (S : Shares A X WQ KV WO) (b : Fin 2) (h : Fin 4) (i : Fin 256) (j : Fin 2048) :
    IsReal (Cert.ReferenceIdeal.P.scoreAt X WQ (KV 0) b h i j) :=
  (IsReal.sum _ _ fun _ => (IsReal.sum _ _ fun _ => (S.rx _).mul (S.rq _)).mul (S.rk _)).mul scale_real

/-- The context of a row and a column: the device's weighted sum is the reference's. -/
theorem Shares.ctx (S : Shares A X WQ KV WO) (c : Fin 8) (b : Fin 2) (i : Fin 256) (hc : c.val = 4 * b.val + i.val / 64)
    (h : Fin 4) (n : Fin 64) : Cert.KernelIdeal.P.hdC A c h (ix2 ⟨i.val % 64, by omega⟩ n) =
      ∑ j : Fin 2048, KV 1 (ix4 b j h n) * Cert.ReferenceIdeal.P.soft (Cert.ReferenceIdeal.P.expo (Cert.ReferenceIdeal.P.masked
        (Cert.ReferenceIdeal.P.scores X WQ (KV 0)))) (ix4 b h i j) := by
  simp only [Cert.ReferenceIdeal.P.soft_at, Cert.ReferenceIdeal.P.masked_at, Cert.ReferenceIdeal.P.scores_at]
  have hon : ∀ k, (if (seen i k).val / 64 % 4 = i.val / 64 then Cert.ReferenceIdeal.P.scoreAt X WQ (KV 0) b h i (seen i k) else ⊥) =
      Cert.KernelIdeal.P.ownScore A c h ⟨i.val % 64, by omega⟩ k := by
    intro k
    rw [if_pos ((seen_iff i _).mp ⟨k, rfl⟩), S.score c b i hc]
  rw [weighted (e := seen i) (seen_inj i) (fun j => if j.val / 64 % 4 = i.val / 64 then Cert.ReferenceIdeal.P.scoreAt X WQ (KV 0) b h i j else ⊥)
    (fun k => by rw [if_pos ((seen_iff i _).mp ⟨k, rfl⟩)]; exact S.score_real b h i _)
    (fun j hj => if_neg fun e => hj ((seen_iff i j).mpr e)), Cert.KernelIdeal.P.hd_at]
  refine Finset.sum_congr rfl fun k _ => ?_
  rw [S.kv_seen c b i hc]
  simp only [hon]

/-- What a device returns is the reference's result. -/
theorem Shares.result (S : Shares A X WQ KV WO) (c : Fin 8) : Cert.KernelIdeal.P.outC A c =
    Cert.ReferenceIdeal.P.output (Cert.ReferenceIdeal.P.soft (Cert.ReferenceIdeal.P.expo (Cert.ReferenceIdeal.P.masked
      (Cert.ReferenceIdeal.P.scores X WQ (KV 0))))) (KV 1) WO := by
  funext j
  obtain ⟨b, i, n, rfl⟩ : ∃ (b : Fin 2) (i : Fin 256) (n : Fin 512), j = ix3 b i n := ⟨j 0, j 1, j 2, eq_ix3 j⟩
  rw [Cert.KernelIdeal.P.out_at, Cert.ReferenceIdeal.P.output_at, S.wo]
  refine Finset.sum_congr rfl fun t _ => ?_
  have e : (⟨(b.val * 256 + i.val) % 64, by omega⟩ : Fin 64) = ⟨i.val % 64, by omega⟩ := Fin.ext (by show (b.val * 256 + i.val) % 64 = i.val % 64; omega)
  rw [e, S.ctx _ b i (by show (b.val * 256 + i.val) / 64 = 4 * b.val + i.val / 64; omega)]

end Cert.Proof
-- ==== Proof.Algebraic.lean ====
/-
  The kernel's result over the extended reals is the reference's: the arguments the claim pairs are shares of the
  reference's, the runs of both programs are known, and the equation joins them.
-/
module

public import proofs.«01_k».proof.Proof.Pre
public import proofs.«01_k».proof.Proof.Equation
public import proofs.«01_k».proof.Proof.Run

@[expose] public section

set_option maxRecDepth 16384

noncomputable section

namespace Cert.Proof

open Idealize.ShloMosaic Idealize.ShloMosaic.TcCoe Idealize.SL.Sem
open Cert.Soft (IsReal)
open Cert.KernelIdeal.P (argsOf)

attribute [local instance] pre_kernel_facts

/-- The memory of the kernel's devices. -/
abbrev KMem := (ℓ : Loc Cert.KernelIdeal.nD Cert.KernelIdeal.τ Cert.KernelIdeal.sig) → Buf (Elt Ideal) ℓ

/-- The memory of the reference's device. -/
abbrev RMem := (ℓ : Loc Cert.ReferenceIdeal.nD Cert.ReferenceIdeal.τ Cert.ReferenceIdeal.sig) → Buf (Elt Ideal) ℓ

/-- The queries on device `c`. -/
abbrev kx (m : KMem) (c : Dev Cert.KernelIdeal.nD) : FVec Ideal Cert.KernelIdeal.S2x256x512 .bf16 :=
  m ((c.tc : Thread Cert.KernelIdeal.nD Cert.KernelIdeal.τ).loc Cert.KernelIdeal.main_arg0)

/-- The query weights on device `c`. -/
abbrev kq (m : KMem) (c : Dev Cert.KernelIdeal.nD) : FVec Ideal Cert.KernelIdeal.S512x256 .bf16 :=
  m ((c.tc : Thread Cert.KernelIdeal.nD Cert.KernelIdeal.τ).loc Cert.KernelIdeal.main_arg1)

/-- The keys on device `c`. -/
abbrev kk (m : KMem) (c : Dev Cert.KernelIdeal.nD) : FVec Ideal Cert.KernelIdeal.S2x256x4x64 .bf16 :=
  m ((c.tc : Thread Cert.KernelIdeal.nD Cert.KernelIdeal.τ).loc Cert.KernelIdeal.main_arg2)

/-- The values on device `c`. -/
abbrev kv (m : KMem) (c : Dev Cert.KernelIdeal.nD) : FVec Ideal Cert.KernelIdeal.S2x256x4x64 .bf16 :=
  m ((c.tc : Thread Cert.KernelIdeal.nD Cert.KernelIdeal.τ).loc Cert.KernelIdeal.main_arg3)

/-- The output weights on device `c`. -/
abbrev ko (m : KMem) (c : Dev Cert.KernelIdeal.nD) : FVec Ideal Cert.KernelIdeal.S256x512 .bf16 :=
  m ((c.tc : Thread Cert.KernelIdeal.nD Cert.KernelIdeal.τ).loc Cert.KernelIdeal.main_arg4)

/-- The queries of the reference. -/
abbrev rx (m : RMem) : FVec Ideal Cert.ReferenceIdeal.S2x256x512 .bf16 :=
  m (((0 : Dev Cert.ReferenceIdeal.nD).tc : Thread Cert.ReferenceIdeal.nD Cert.ReferenceIdeal.τ).loc Cert.ReferenceIdeal.main_arg0)

/-- The query weights of the reference. -/
abbrev rq (m : RMem) : FVec Ideal Cert.ReferenceIdeal.S512x256 .bf16 :=
  m (((0 : Dev Cert.ReferenceIdeal.nD).tc : Thread Cert.ReferenceIdeal.nD Cert.ReferenceIdeal.τ).loc Cert.ReferenceIdeal.main_arg1)

/-- The keys of the reference. -/
abbrev rk (m : RMem) : FVec Ideal Cert.ReferenceIdeal.S2x2048x4x64 .bf16 :=
  m (((0 : Dev Cert.ReferenceIdeal.nD).tc : Thread Cert.ReferenceIdeal.nD Cert.ReferenceIdeal.τ).loc Cert.ReferenceIdeal.main_arg2)

/-- The values of the reference. -/
abbrev rv (m : RMem) : FVec Ideal Cert.ReferenceIdeal.S2x2048x4x64 .bf16 :=
  m (((0 : Dev Cert.ReferenceIdeal.nD).tc : Thread Cert.ReferenceIdeal.nD Cert.ReferenceIdeal.τ).loc Cert.ReferenceIdeal.main_arg3)

/-- The output weights of the reference. -/
abbrev ro (m : RMem) : FVec Ideal Cert.ReferenceIdeal.S256x512 .bf16 :=
  m (((0 : Dev Cert.ReferenceIdeal.nD).tc : Thread Cert.ReferenceIdeal.nD Cert.ReferenceIdeal.τ).loc Cert.ReferenceIdeal.main_arg4)

/-- The queries a device hands the kernel: its argument, the batches one after the other. -/
theorem args_x (m : KMem) (c : Fin 8) (r t : Fin 512) :
    (argsOf m).x c (ix2 r t) = kx m c (ix3 ⟨r.val / 256, by omega⟩ ⟨r.val % 256, by omega⟩ t) := by
  have e : (argsOf m).x c = shapeCast Cert.KernelIdeal.S512x512 (kx m c) Cert.KernelIdeal.Gen.shapeCasts_S2x256x512_S512x512 := by
    show StableHlo.after Cert.KernelIdeal.Gen.hostOps0 (fun b => m ((c : Dev Cert.KernelIdeal.nD), b)) (Proc.devRef .tc Cert.KernelIdeal.main_v1) = _
    after_results_simp
    rfl
  rw [e]
  pointwise []

/-- The keys and the values a device hands the kernel: its arguments, the batches one after the other. -/
theorem args_kv (m : KMem) (o : Fin 8) (t : Fin 2) (r : Fin 512) (h : Fin 4) (n : Fin 64) : (argsOf m).kv o t (ix3 r h n) =
    (![kk m o, kv m o] : Fin 2 → FVec Ideal Cert.KernelIdeal.S2x256x4x64 .bf16) t (ix4 ⟨r.val / 256, by omega⟩ ⟨r.val % 256, by omega⟩ h n) := by
  have e : ∀ t, (argsOf m).kv o t = shapeCast Cert.KernelIdeal.S512x4x64
      ((![kk m o, kv m o] : Fin 2 → FVec Ideal Cert.KernelIdeal.S2x256x4x64 .bf16) t) Cert.KernelIdeal.Gen.shapeCasts_S2x256x4x64_S512x4x64 := by
    intro t
    match t with
    | 0 =>
      show StableHlo.after Cert.KernelIdeal.Gen.hostOps0 (fun b => m ((o : Dev Cert.KernelIdeal.nD), b)) (Proc.devRef .tc Cert.KernelIdeal.main_v2) = _
      after_results_simp
      rfl
    | 1 =>
      show StableHlo.after Cert.KernelIdeal.Gen.hostOps0 (fun b => m ((o : Dev Cert.KernelIdeal.nD), b)) (Proc.devRef .tc Cert.KernelIdeal.main_v3) = _
      after_results_simp
      rfl
  rw [e]
  pointwise []

/-- Block `o` of an array cut along its second axis, at a position. -/
theorem block_at (o : Fin 8) (v : FVec Ideal Cert.ReferenceIdeal.S2x2048x4x64 .bf16) (b : Fin 2) (u : Fin 256) (h : Fin 4) (n : Fin 64) :
    Layout.block ⟨4, ![2, 256, 4, 64]⟩ ⟨4, ![2, 2048, 4, 64]⟩ 1 8 o v (by decide) (ix4 b u h n) = v (ix4 b ⟨256 * o.val + u.val, by omega⟩ h n) := by
  rw [Layout.block_apply]
  congr 1
  funext a
  apply Fin.ext
  rw [Layout.Tiles.idx_val]
  match a with
  | ⟨0, _⟩ => rfl
  | ⟨1, _⟩ => show o.val * 256 + u.val = 256 * o.val + u.val; omega
  | ⟨2, _⟩ => rfl
  | ⟨3, _⟩ => rfl

/-- Memories that agree as the claim says, where the predicate holds: the devices hold their shares of the reference's arguments. -/
theorem shares (m : KMem) (m' : RMem) (hp : Cert.Pre_KernelIdeal_finite_scores_KernelIdeal m)
    (h : ∀ c : Dev Cert.KernelIdeal.nD, kx m c = rx m' ∧ kq m c = rq m' ∧
      kk m c = Layout.block ⟨4, ![2, 256, 4, 64]⟩ ⟨4, ![2, 2048, 4, 64]⟩ 1 8 c (rk m') ∧
      kv m c = Layout.block ⟨4, ![2, 256, 4, 64]⟩ ⟨4, ![2, 2048, 4, 64]⟩ 1 8 c (rv m') ∧ ko m c = ro m') :
    Shares (argsOf m) (rx m') (rq m') ![rk m', rv m'] (ro m') where
  x c r t := by rw [args_x, (h c).1]
  wq c := (Cert.KernelIdeal.Gen.V_main_arg1 m c).trans (h c).2.1
  kv o t r hd n := by
    rw [args_kv]
    match t with
    | 0 => exact (congrFun (h o).2.2.1 _).trans (block_at o _ _ _ _ _)
    | 1 => exact (congrFun (h o).2.2.2.1 _).trans (block_at o _ _ _ _ _)
  wo c := (Cert.KernelIdeal.Gen.V_main_arg4 m c).trans (h c).2.2.2.2
  rx i := (h 0).1 ▸ (pre_real _ _ _ _ _ (hp 0)).1 i
  rq i := (h 0).2.1 ▸ (pre_real _ _ _ _ _ (hp 0)).2.1 i
  rk j := by
    obtain ⟨b, u, hd, n, rfl⟩ : ∃ (b : Fin 2) (u : Fin 2048) (hd : Fin 4) (n : Fin 64), j = ix4 b u hd n := ⟨j 0, j 1, j 2, j 3, eq_ix4 j⟩
    have e := (pre_real _ _ _ _ _ (hp (⟨u.val / 256, by omega⟩ : Fin 8))).2.2 (ix4 b ⟨u.val % 256, by omega⟩ hd n)
    have e2 := (congrFun (h (⟨u.val / 256, by omega⟩ : Fin 8)).2.2.1 (ix4 b ⟨u.val % 256, by omega⟩ hd n)).trans (block_at _ _ _ _ _ _)
    have eu : (⟨256 * (u.val / 256) + u.val % 256, by omega⟩ : Fin 2048) = u := Fin.ext (by show 256 * (u.val / 256) + u.val % 256 = u.val; omega)
    rw [eu] at e2
    show IsReal (rk m' (ix4 b u hd n))
    rw [← e2]
    exact e

/-- Over the extended reals, every device returns the reference's result. -/
theorem algebraic : Cert.algebraic_KernelIdeal_ReferenceIdeal_pre_finite_scores_KernelIdeal := by
  intro m g m' g' hp h
  refine ⟨Cert.ReferenceIdeal.Value.res_main_v45 m' 0, ?_, ?_⟩
  · refine (θ_run Cert.KernelIdeal.defs _ _).mono (fun r hr c => ?_) (Cert.KernelIdeal.P.run_main (F := Ideal) m g)
    exact ⟨(hr.1 c).2.trans (((shares m m' hp h).result c).trans (Cert.ReferenceIdeal.P.stages m' 0).symm), (hr.1 c).1⟩
  · exact (θ_run Cert.ReferenceIdeal.defs _ _).mono (fun r hr => hr 0) (Cert.ReferenceIdeal.Value.run (F := Ideal) m' g')

end Cert.Proof
-- ==== Proof.lean ====
/-
  The claim of the statement, put together from its parts: the frames (`Frames`), the preservation, and the equation of
  the kernel and the reference over the extended reals (`Algebraic`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel, its idealization and the reference run and leave their arguments; the idealization rewrites nothing; over
the extended reals the kernel returns the reference's result. -/
theorem claim : Cert.Claim := ⟨Cert.Kernel.Gen.facts, Cert.KernelIdeal.Gen.facts, Cert.ReferenceIdeal.Gen.facts,
  pre_kernel_facts, pre_reference_facts,
  frame_kernel, frame_ideal, fun m ρ _ => frame_ideal m ρ trivial, frame_reference, fun m ρ _ => frame_reference m ρ trivial,
  preserves, algebraic⟩

end Cert.Proof

end
